-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x2048 : Shape := ⟨2, ![2048, 2048]⟩
abbrev S2048x512 : Shape := ⟨2, ![2048, 512]⟩
abbrev S8x2048x256 : Shape := ⟨3, ![8, 2048, 256]⟩
abbrev S6x512x256 : Shape := ⟨3, ![6, 512, 256]⟩
abbrev S8 : Shape := ⟨1, ![8]⟩
abbrev S6 : Shape := ⟨1, ![6]⟩
abbrev S1 : Shape := ⟨1, ![1]⟩
abbrev S_ : Shape := ⟨0, ![]⟩
abbrev S1x2048x256 : Shape := ⟨3, ![1, 2048, 256]⟩
abbrev S2048x256 : Shape := ⟨2, ![2048, 256]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048x512, .f32⟩
  | .local _ .vmem, ⟨0, _⟩ => ⟨S512x2048, .f32⟩
  | .local _ .vmem, ⟨1, _⟩ => ⟨S2048x512, .f32⟩
  | .local _ .vmem, ⟨2, _⟩ => ⟨S8x2048x256, .f32⟩
  | .local _ .vmem, ⟨3, _⟩ => ⟨S6x512x256, .bf16⟩
  | .local _ .vmem, ⟨4, _⟩ => ⟨S6x512x256, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) (c0_i32_6 : BitVec 32) : Fin 2 → Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  let v15 : BitVec 32 := Scalar.addi v14 c0_i32_6
  ![0, v15.toNat]
def k0_dev1 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_104 : BitVec 32 := 1#32
  let v148 : BitVec 32 := Scalar.addi v2 c1_i32_104
  let c4_i32_105 : BitVec 32 := 4#32
  let c0_i32_106 : BitVec 32 := 0#32
  let v149 : BitVec 1 := Scalar.cmpi .eq c4_i32_105 c0_i32_106
  let c1_i32_107 : BitVec 32 := 1#32
  let v150 : BitVec 32 := Scalar.select v149 c1_i32_107 c4_i32_105
  let v151 : BitVec 32 := Scalar.remsi v148 v150
  let c0_i32_109 : BitVec 32 := 0#32
  let v153 : BitVec 1 := Scalar.cmpi .slt v151 c0_i32_109
  let c0_i32_110 : BitVec 32 := 0#32
  let v154 : BitVec 1 := Scalar.cmpi .slt v150 c0_i32_110
  let v155 : BitVec 1 := Scalar.xori v153 v154
  let c0_i32_108 : BitVec 32 := 0#32
  let v152 : BitVec 1 := Scalar.cmpi .ne v151 c0_i32_108
  let v156 : BitVec 1 := Scalar.andi v155 v152
  let v157 : BitVec 32 := Scalar.addi v151 v150
  let v158 : BitVec 32 := Scalar.select v156 v157 v151
  let c1_i32_112 : BitVec 32 := 1#32
  let v159 : BitVec 32 := Scalar.muli v158 c1_i32_112
  let v160 : BitVec 32 := Scalar.addi c0_i32_113 v159
  v160.toNat
def k0_dev2 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_114 : BitVec 32 := 2#32
  let v161 : BitVec 32 := Scalar.addi v2 c2_i32_114
  let c4_i32_115 : BitVec 32 := 4#32
  let c0_i32_116 : BitVec 32 := 0#32
  let v162 : BitVec 1 := Scalar.cmpi .eq c4_i32_115 c0_i32_116
  let c1_i32_117 : BitVec 32 := 1#32
  let v163 : BitVec 32 := Scalar.select v162 c1_i32_117 c4_i32_115
  let v164 : BitVec 32 := Scalar.remsi v161 v163
  let c0_i32_119 : BitVec 32 := 0#32
  let v166 : BitVec 1 := Scalar.cmpi .slt v164 c0_i32_119
  let c0_i32_120 : BitVec 32 := 0#32
  let v167 : BitVec 1 := Scalar.cmpi .slt v163 c0_i32_120
  let v168 : BitVec 1 := Scalar.xori v166 v167
  let c0_i32_118 : BitVec 32 := 0#32
  let v165 : BitVec 1 := Scalar.cmpi .ne v164 c0_i32_118
  let v169 : BitVec 1 := Scalar.andi v168 v165
  let v170 : BitVec 32 := Scalar.addi v164 v163
  let v171 : BitVec 32 := Scalar.select v169 v170 v164
  let c1_i32_122 : BitVec 32 := 1#32
  let v172 : BitVec 32 := Scalar.muli v171 c1_i32_122
  let v173 : BitVec 32 := Scalar.addi c0_i32_123 v172
  v173.toNat
def k0_dev3 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_124 : BitVec 32 := 3#32
  let v174 : BitVec 32 := Scalar.addi v2 c3_i32_124
  let c4_i32_125 : BitVec 32 := 4#32
  let c0_i32_126 : BitVec 32 := 0#32
  let v175 : BitVec 1 := Scalar.cmpi .eq c4_i32_125 c0_i32_126
  let c1_i32_127 : BitVec 32 := 1#32
  let v176 : BitVec 32 := Scalar.select v175 c1_i32_127 c4_i32_125
  let v177 : BitVec 32 := Scalar.remsi v174 v176
  let c0_i32_129 : BitVec 32 := 0#32
  let v179 : BitVec 1 := Scalar.cmpi .slt v177 c0_i32_129
  let c0_i32_130 : BitVec 32 := 0#32
  let v180 : BitVec 1 := Scalar.cmpi .slt v176 c0_i32_130
  let v181 : BitVec 1 := Scalar.xori v179 v180
  let c0_i32_128 : BitVec 32 := 0#32
  let v178 : BitVec 1 := Scalar.cmpi .ne v177 c0_i32_128
  let v182 : BitVec 1 := Scalar.andi v181 v178
  let v183 : BitVec 32 := Scalar.addi v177 v176
  let v184 : BitVec 32 := Scalar.select v182 v183 v177
  let c1_i32_132 : BitVec 32 := 1#32
  let v185 : BitVec 32 := Scalar.muli v184 c1_i32_132
  let v186 : BitVec 32 := Scalar.addi c0_i32_133 v185
  v186.toNat
def k0_dev4 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_136 : BitVec 32 := 1#32
  let v190 : BitVec 32 := Scalar.addi v2 c1_i32_136
  let c4_i32_137 : BitVec 32 := 4#32
  let c0_i32_138 : BitVec 32 := 0#32
  let v191 : BitVec 1 := Scalar.cmpi .eq c4_i32_137 c0_i32_138
  let c1_i32_139 : BitVec 32 := 1#32
  let v192 : BitVec 32 := Scalar.select v191 c1_i32_139 c4_i32_137
  let v193 : BitVec 32 := Scalar.remsi v190 v192
  let c0_i32_141 : BitVec 32 := 0#32
  let v195 : BitVec 1 := Scalar.cmpi .slt v193 c0_i32_141
  let c0_i32_142 : BitVec 32 := 0#32
  let v196 : BitVec 1 := Scalar.cmpi .slt v192 c0_i32_142
  let v197 : BitVec 1 := Scalar.xori v195 v196
  let c0_i32_140 : BitVec 32 := 0#32
  let v194 : BitVec 1 := Scalar.cmpi .ne v193 c0_i32_140
  let v198 : BitVec 1 := Scalar.andi v197 v194
  let v199 : BitVec 32 := Scalar.addi v193 v192
  let v200 : BitVec 32 := Scalar.select v198 v199 v193
  let c1_i32_158 : BitVec 32 := 1#32
  let v214 : BitVec 32 := Scalar.muli v200 c1_i32_158
  let v215 : BitVec 32 := Scalar.addi c0_i32_159 v214
  v215.toNat
def k0_dev5 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_164 : BitVec 32 := 1#32
  let v224 : BitVec 32 := Scalar.addi v2 c1_i32_164
  let c4_i32_165 : BitVec 32 := 4#32
  let c0_i32_166 : BitVec 32 := 0#32
  let v225 : BitVec 1 := Scalar.cmpi .eq c4_i32_165 c0_i32_166
  let c1_i32_167 : BitVec 32 := 1#32
  let v226 : BitVec 32 := Scalar.select v225 c1_i32_167 c4_i32_165
  let v227 : BitVec 32 := Scalar.remsi v224 v226
  let c0_i32_169 : BitVec 32 := 0#32
  let v229 : BitVec 1 := Scalar.cmpi .slt v227 c0_i32_169
  let c0_i32_170 : BitVec 32 := 0#32
  let v230 : BitVec 1 := Scalar.cmpi .slt v226 c0_i32_170
  let v231 : BitVec 1 := Scalar.xori v229 v230
  let c0_i32_168 : BitVec 32 := 0#32
  let v228 : BitVec 1 := Scalar.cmpi .ne v227 c0_i32_168
  let v232 : BitVec 1 := Scalar.andi v231 v228
  let v233 : BitVec 32 := Scalar.addi v227 v226
  let v234 : BitVec 32 := Scalar.select v232 v233 v227
  let c1_i32_186 : BitVec 32 := 1#32
  let v248 : BitVec 32 := Scalar.muli v234 c1_i32_186
  let v249 : BitVec 32 := Scalar.addi c0_i32_187 v248
  v249.toNat
def k0_dev6 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_192 : BitVec 32 := 2#32
  let v258 : BitVec 32 := Scalar.addi v2 c2_i32_192
  let c4_i32_193 : BitVec 32 := 4#32
  let c0_i32_194 : BitVec 32 := 0#32
  let v259 : BitVec 1 := Scalar.cmpi .eq c4_i32_193 c0_i32_194
  let c1_i32_195 : BitVec 32 := 1#32
  let v260 : BitVec 32 := Scalar.select v259 c1_i32_195 c4_i32_193
  let v261 : BitVec 32 := Scalar.remsi v258 v260
  let c0_i32_197 : BitVec 32 := 0#32
  let v263 : BitVec 1 := Scalar.cmpi .slt v261 c0_i32_197
  let c0_i32_198 : BitVec 32 := 0#32
  let v264 : BitVec 1 := Scalar.cmpi .slt v260 c0_i32_198
  let v265 : BitVec 1 := Scalar.xori v263 v264
  let c0_i32_196 : BitVec 32 := 0#32
  let v262 : BitVec 1 := Scalar.cmpi .ne v261 c0_i32_196
  let v266 : BitVec 1 := Scalar.andi v265 v262
  let v267 : BitVec 32 := Scalar.addi v261 v260
  let v268 : BitVec 32 := Scalar.select v266 v267 v261
  let c1_i32_214 : BitVec 32 := 1#32
  let v282 : BitVec 32 := Scalar.muli v268 c1_i32_214
  let v283 : BitVec 32 := Scalar.addi c0_i32_215 v282
  v283.toNat
def k0_dev7 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_220 : BitVec 32 := 2#32
  let v292 : BitVec 32 := Scalar.addi v2 c2_i32_220
  let c4_i32_221 : BitVec 32 := 4#32
  let c0_i32_222 : BitVec 32 := 0#32
  let v293 : BitVec 1 := Scalar.cmpi .eq c4_i32_221 c0_i32_222
  let c1_i32_223 : BitVec 32 := 1#32
  let v294 : BitVec 32 := Scalar.select v293 c1_i32_223 c4_i32_221
  let v295 : BitVec 32 := Scalar.remsi v292 v294
  let c0_i32_225 : BitVec 32 := 0#32
  let v297 : BitVec 1 := Scalar.cmpi .slt v295 c0_i32_225
  let c0_i32_226 : BitVec 32 := 0#32
  let v298 : BitVec 1 := Scalar.cmpi .slt v294 c0_i32_226
  let v299 : BitVec 1 := Scalar.xori v297 v298
  let c0_i32_224 : BitVec 32 := 0#32
  let v296 : BitVec 1 := Scalar.cmpi .ne v295 c0_i32_224
  let v300 : BitVec 1 := Scalar.andi v299 v296
  let v301 : BitVec 32 := Scalar.addi v295 v294
  let v302 : BitVec 32 := Scalar.select v300 v301 v295
  let c1_i32_242 : BitVec 32 := 1#32
  let v316 : BitVec 32 := Scalar.muli v302 c1_i32_242
  let v317 : BitVec 32 := Scalar.addi c0_i32_243 v316
  v317.toNat
def k0_dev8 (d0 : Dev nD) : Nat :=
  let c0_i32_271 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_248 : BitVec 32 := 3#32
  let v326 : BitVec 32 := Scalar.addi v2 c3_i32_248
  let c4_i32_249 : BitVec 32 := 4#32
  let c0_i32_250 : BitVec 32 := 0#32
  let v327 : BitVec 1 := Scalar.cmpi .eq c4_i32_249 c0_i32_250
  let c1_i32_251 : BitVec 32 := 1#32
  let v328 : BitVec 32 := Scalar.select v327 c1_i32_251 c4_i32_249
  let v329 : BitVec 32 := Scalar.remsi v326 v328
  let c0_i32_253 : BitVec 32 := 0#32
  let v331 : BitVec 1 := Scalar.cmpi .slt v329 c0_i32_253
  let c0_i32_254 : BitVec 32 := 0#32
  let v332 : BitVec 1 := Scalar.cmpi .slt v328 c0_i32_254
  let v333 : BitVec 1 := Scalar.xori v331 v332
  let c0_i32_252 : BitVec 32 := 0#32
  let v330 : BitVec 1 := Scalar.cmpi .ne v329 c0_i32_252
  let v334 : BitVec 1 := Scalar.andi v333 v330
  let v335 : BitVec 32 := Scalar.addi v329 v328
  let v336 : BitVec 32 := Scalar.select v334 v335 v329
  let c1_i32_270 : BitVec 32 := 1#32
  let v350 : BitVec 32 := Scalar.muli v336 c1_i32_270
  let v351 : BitVec 32 := Scalar.addi c0_i32_271 v350
  v351.toNat
def k0_dev9 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_276 : BitVec 32 := 3#32
  let v360 : BitVec 32 := Scalar.addi v2 c3_i32_276
  let c4_i32_277 : BitVec 32 := 4#32
  let c0_i32_278 : BitVec 32 := 0#32
  let v361 : BitVec 1 := Scalar.cmpi .eq c4_i32_277 c0_i32_278
  let c1_i32_279 : BitVec 32 := 1#32
  let v362 : BitVec 32 := Scalar.select v361 c1_i32_279 c4_i32_277
  let v363 : BitVec 32 := Scalar.remsi v360 v362
  let c0_i32_281 : BitVec 32 := 0#32
  let v365 : BitVec 1 := Scalar.cmpi .slt v363 c0_i32_281
  let c0_i32_282 : BitVec 32 := 0#32
  let v366 : BitVec 1 := Scalar.cmpi .slt v362 c0_i32_282
  let v367 : BitVec 1 := Scalar.xori v365 v366
  let c0_i32_280 : BitVec 32 := 0#32
  let v364 : BitVec 1 := Scalar.cmpi .ne v363 c0_i32_280
  let v368 : BitVec 1 := Scalar.andi v367 v364
  let v369 : BitVec 32 := Scalar.addi v363 v362
  let v370 : BitVec 32 := Scalar.select v368 v369 v363
  let c1_i32_298 : BitVec 32 := 1#32
  let v384 : BitVec 32 := Scalar.muli v370 c1_i32_298
  let v385 : BitVec 32 := Scalar.addi c0_i32_299 v384
  v385.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_316 : BitVec 32 := 512#32
  let v416 : BitVec 32 := Scalar.muli v2 c512_i32_316
  let v417 : Index := Scalar.indexCast v416
  let c0_317 : Index := 0#32
  ![v417.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_330 : BitVec 32 := 512#32
  let v441 : BitVec 32 := Scalar.muli v2 c512_i32_330
  let v442 : Index := Scalar.indexCast v441
  let c256 : Index := 256#32
  ![v442.toNat, 256]
def k0_off4 (d0 : Dev nD) (c1_i32_331 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v444 : BitVec 32 := Scalar.subi v2 c1_i32_331
  let c4_i32_332 : BitVec 32 := 4#32
  let c0_i32_333 : BitVec 32 := 0#32
  let v445 : BitVec 1 := Scalar.cmpi .eq c4_i32_332 c0_i32_333
  let c1_i32_334 : BitVec 32 := 1#32
  let v446 : BitVec 32 := Scalar.select v445 c1_i32_334 c4_i32_332
  let v447 : BitVec 32 := Scalar.remsi v444 v446
  let c0_i32_336 : BitVec 32 := 0#32
  let v449 : BitVec 1 := Scalar.cmpi .slt v447 c0_i32_336
  let c0_i32_337 : BitVec 32 := 0#32
  let v450 : BitVec 1 := Scalar.cmpi .slt v446 c0_i32_337
  let v451 : BitVec 1 := Scalar.xori v449 v450
  let c0_i32_335 : BitVec 32 := 0#32
  let v448 : BitVec 1 := Scalar.cmpi .ne v447 c0_i32_335
  let v452 : BitVec 1 := Scalar.andi v451 v448
  let v453 : BitVec 32 := Scalar.addi v447 v446
  let v454 : BitVec 32 := Scalar.select v452 v453 v447
  let c512_i32_355 : BitVec 32 := 512#32
  let v479 : BitVec 32 := Scalar.muli v454 c512_i32_355
  let v480 : Index := Scalar.indexCast v479
  let c0_356 : Index := 0#32
  ![v480.toNat, 0]
def k0_off5 (d0 : Dev nD) (c1_i32_357 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v482 : BitVec 32 := Scalar.subi v2 c1_i32_357
  let c4_i32_358 : BitVec 32 := 4#32
  let c0_i32_359 : BitVec 32 := 0#32
  let v483 : BitVec 1 := Scalar.cmpi .eq c4_i32_358 c0_i32_359
  let c1_i32_360 : BitVec 32 := 1#32
  let v484 : BitVec 32 := Scalar.select v483 c1_i32_360 c4_i32_358
  let v485 : BitVec 32 := Scalar.remsi v482 v484
  let c0_i32_362 : BitVec 32 := 0#32
  let v487 : BitVec 1 := Scalar.cmpi .slt v485 c0_i32_362
  let c0_i32_363 : BitVec 32 := 0#32
  let v488 : BitVec 1 := Scalar.cmpi .slt v484 c0_i32_363
  let v489 : BitVec 1 := Scalar.xori v487 v488
  let c0_i32_361 : BitVec 32 := 0#32
  let v486 : BitVec 1 := Scalar.cmpi .ne v485 c0_i32_361
  let v490 : BitVec 1 := Scalar.andi v489 v486
  let v491 : BitVec 32 := Scalar.addi v485 v484
  let v492 : BitVec 32 := Scalar.select v490 v491 v485
  let c512_i32_381 : BitVec 32 := 512#32
  let v517 : BitVec 32 := Scalar.muli v492 c512_i32_381
  let v518 : Index := Scalar.indexCast v517
  let c256_382 : Index := 256#32
  ![v518.toNat, 256]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Slots.lean ====
/-
The kernel's devices, buffers and semaphores, named by slot.

Slot `s < 6` is the tile that goes to the device `s / 2 + 1` steps ahead, columns `256 * (s % 2)` of that device's 512;
slots 6 and 7 are the two tiles a device keeps.  Every memref and semaphore that the kernel spells once for each slot is
stated here once, the slot a variable.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.FamCut
public import Idealize.ShloMosaic.Lib.ViewIndex
public import Idealize.ShloMosaic.Lib.Tactic

@[expose] public section

noncomputable section

namespace Cert.KernelProof

open Cert.KernelIdeal Cert.KernelIdeal.Gen
open Idealize.ShloMosaic Idealize.ShloMosaic.TcCoe

/-! ## The devices -/

set_option backward.proofsInPublic true in
/-- The device `j + 1` steps ahead of `c`. -/
def ahead (j : Fin 3) (c : Dev nD) : Dev nD := ⟨(c.val + j.val + 1) % 4, Nat.mod_lt _ (by decide)⟩

set_option backward.proofsInPublic true in
/-- The device `j + 1` steps behind `c`. -/
def behind (j : Fin 3) (c : Dev nD) : Dev nD := ⟨(c.val + 3 - j.val) % 4, Nat.mod_lt _ (by decide)⟩

theorem ahead_behind (j : Fin 3) (c : Dev nD) : ahead j (behind j c) = c := by revert j c; decide
theorem behind_ahead (j : Fin 3) (c : Dev nD) : behind j (ahead j c) = c := by revert j c; decide

/-- `j + 1` steps ahead, as a permutation of the devices. -/
def turn (j : Fin 3) : Dev nD ≃ Dev nD := ⟨ahead j, behind j, behind_ahead j, ahead_behind j⟩

set_option backward.proofsInPublic true in
/-- The hop of slot `s`: it travels `hop s + 1` steps. -/
def hop (s : Fin 6) : Fin 3 := ⟨s.val / 2, by have := s.isLt; omega⟩

/-- Where device `c` sends slot `s`. -/
abbrev tgt (c : Dev nD) (s : Fin 6) : Dev nD := ahead (hop s) c
/-- Where device `c`'s receive slot `s` comes from. -/
abbrev src (c : Dev nD) (s : Fin 6) : Dev nD := behind (hop s) c

set_option backward.proofsInPublic true in
/-- A sent slot among all eight. -/
def slot8 (s : Fin 6) : Fin 8 := ⟨s.val, by have := s.isLt; omega⟩

/-! ## The offsets -/

/-- The column of `w` where slot `s` of device `c` starts. -/
def wcol (c : Dev nD) (s : Fin 8) : ℕ := 512 * ((c.val + s.val / 2 + 1) % 4) + 256 * (s.val % 2)
/-- The result row where the tile in slot `s` goes. -/
def orow (c : Dev nD) (s : Fin 8) : ℕ := 512 * ((c.val + 7 - s.val / 2) % 4)
/-- Its column. -/
def ocol (s : Fin 8) : ℕ := 256 * (s.val % 2)

theorem wcol_inb (c : Dev nD) (s : Fin 8) : ∀ a, (![0, wcol c s] : Fin 2 → ℕ) a + S2048x256.size a ≤ S2048x2048.size a := by
  revert c s; decide +kernel
theorem orow_inb (c : Dev nD) (s : Fin 8) : ∀ a, (![orow c s, ocol s] : Fin 2 → ℕ) a + S512x256.size a ≤ S2048x512.size a := by
  revert c s; decide +kernel

theorem off1_eq (c : Dev nD) : ∀ s : Fin 8, k0_off1 c (BitVec.ofNat 32 ((s.val / 2 + 1) % 4)) (BitVec.ofNat 32 (256 * (s.val % 2))) = ![0, wcol c s] := by
  revert c; decide +kernel
theorem off4_eq (c : Dev nD) : ∀ j : Fin 3, k0_off4 c (BitVec.ofNat 32 (1 + j.val)) = ![512 * ((c.val + 7 - j.val) % 4), 0] := by
  revert c; decide +kernel
theorem off5_eq (c : Dev nD) : ∀ j : Fin 3, k0_off5 c (BitVec.ofNat 32 (1 + j.val)) = ![512 * ((c.val + 7 - j.val) % 4), 256] := by
  revert c; decide +kernel

theorem dev1_eq (c : Dev nD) : (⟨k0_dev1 c, k0_dev1_lt c⟩ : Dev nD) = ahead 0 c := by revert c; decide +kernel
theorem dev2_eq (c : Dev nD) : (⟨k0_dev2 c, k0_dev2_lt c⟩ : Dev nD) = ahead 1 c := by revert c; decide +kernel
theorem dev3_eq (c : Dev nD) : (⟨k0_dev3 c, k0_dev3_lt c⟩ : Dev nD) = ahead 2 c := by revert c; decide +kernel
theorem dev4_eq (c : Dev nD) : (⟨k0_dev4 c, k0_dev4_lt c⟩ : Dev nD) = tgt c 0 := by revert c; decide +kernel
theorem dev5_eq (c : Dev nD) : (⟨k0_dev5 c, k0_dev5_lt c⟩ : Dev nD) = tgt c 1 := by revert c; decide +kernel
theorem dev6_eq (c : Dev nD) : (⟨k0_dev6 c, k0_dev6_lt c⟩ : Dev nD) = tgt c 2 := by revert c; decide +kernel
theorem dev7_eq (c : Dev nD) : (⟨k0_dev7 c, k0_dev7_lt c⟩ : Dev nD) = tgt c 3 := by revert c; decide +kernel
theorem dev8_eq (c : Dev nD) : (⟨k0_dev8 c, k0_dev8_lt c⟩ : Dev nD) = tgt c 4 := by revert c; decide +kernel
theorem dev9_eq (c : Dev nD) : (⟨k0_dev9 c, k0_dev9_lt c⟩ : Dev nD) = tgt c 5 := by revert c; decide +kernel

/-! ## The memrefs -/

/-- The staged `x` block, `w` in HBM, the staged result block. -/
abbrev xM : Memref sig .tc .vmem S512x2048 .f32 := Memref.whole cc0_stg0_0
abbrev aM : Memref sig .tc .hbm S2048x2048 .f32 := Memref.whole main_arg1
abbrev oM : Memref sig .tc .vmem S2048x512 .f32 := Memref.whole cc0_stg1_0
/-- The scratch buffers: the columns of `w`, the tiles to send, the tiles received. -/
abbrev wB : Memref sig .tc .vmem S8x2048x256 .f32 := Memref.whole cc0_scratch0
abbrev sB : Memref sig .tc .vmem S6x512x256 .bf16 := Memref.whole cc0_scratch1
abbrev rB : Memref sig .tc .vmem S6x512x256 .bf16 := Memref.whole cc0_scratch2

theorem w_inb (s : Fin 8) : ∀ a, (![s.val, 0, 0] : Fin 3 → ℕ) a + S1x2048x256.size a ≤ S8x2048x256.size a := by
  revert s; decide +kernel
theorem s_inb (s : Fin 6) : ∀ a, (![s.val, 0, 0] : Fin 3 → ℕ) a + S1x512x256.size a ≤ S6x512x256.size a := by
  revert s; decide +kernel
theorem q8_inb (s : Fin 8) : ∀ a, (![s.val] : Fin 1 → ℕ) a + S1.size a ≤ S8.size a := by revert s; decide
theorem q6_inb (s : Fin 6) : ∀ a, (![s.val] : Fin 1 → ℕ) a + S1.size a ≤ S6.size a := by revert s; decide

/-- Slot `s` of the `w` scratch, of the send and of the receive scratch, as rectangles of the whole. -/
abbrev wR (s : Fin 8) : Rect S8x2048x256 := Rect.unit (s := S8x2048x256) ![s.val, 0, 0] S1x2048x256.size (w_inb s)
abbrev sR (s : Fin 6) : Rect S6x512x256 := Rect.unit (s := S6x512x256) ![s.val, 0, 0] S1x512x256.size (s_inb s)

/-- The slots as memrefs of rank three, and as the transfers name them, of rank two. -/
abbrev wS (s : Fin 8) : Memref sig .tc .vmem S1x2048x256 .f32 := wB.slice (wR s) (fun _ => rfl)
abbrev wQ (s : Fin 8) : Memref sig .tc .vmem S2048x256 .f32 := (wS s).squeeze S2048x256 squeezes_S1x2048x256_S2048x256
abbrev sS (s : Fin 6) : Memref sig .tc .vmem S1x512x256 .bf16 := sB.slice (sR s) (fun _ => rfl)
abbrev sQ (s : Fin 6) : Memref sig .tc .vmem S512x256 .bf16 := (sS s).squeeze S512x256 squeezes_S1x512x256_S512x256
abbrev rS (s : Fin 6) : Memref sig .tc .vmem S1x512x256 .bf16 := rB.slice (sR s) (fun _ => rfl)
abbrev rQ (s : Fin 6) : Memref sig .tc .vmem S512x256 .bf16 := (rS s).squeeze S512x256 squeezes_S1x512x256_S512x256
/-- The columns of `w` that slot `s` of device `c` takes. -/
abbrev aC (c : Dev nD) (s : Fin 8) : Memref sig .tc .hbm S2048x256 .f32 :=
  aM.slice (Rect.unit (s := S2048x2048) ![0, wcol c s] S2048x256.size (wcol_inb c s)) (fun _ => rfl)
/-- The rectangle of the result that slot `s` of device `c` fills. -/
abbrev oR (c : Dev nD) (s : Fin 8) : Rect S2048x512 := Rect.unit (s := S2048x512) ![orow c s, ocol s] S512x256.size (orow_inb c s)

/-! ## The semaphores -/

/-- The barrier semaphore; slot `s`'s copy, send and receive semaphores. -/
abbrev barS : Sem sig := (SemArray.scalar (sig.barrier 0 rfl) : Sems sig S_).sem
abbrev cpS (s : Fin 8) : DmaSem sig := (((cc0_scratch3 : DmaSems sig S8).slice (Rect.unit (s := S8) ![s.val] S1.size (q8_inb s))).squeeze S_ squeezes_S1_S_).sem
abbrev sdS (s : Fin 6) : DmaSem sig := (((cc0_scratch4 : DmaSems sig S6).slice (Rect.unit (s := S6) ![s.val] S1.size (q6_inb s))).squeeze S_ squeezes_S1_S_).sem
abbrev rvS (s : Fin 6) : DmaSem sig := (((cc0_scratch5 : DmaSems sig S6).slice (Rect.unit (s := S6) ![s.val] S1.size (q6_inb s))).squeeze S_ squeezes_S1_S_).sem

/-- The launch's own semaphores: the copies', the sends', the receives'. -/
abbrev Own : Type := Fin 8 ⊕ (Fin 6 ⊕ Fin 6)
/-- All that the kernel uses: the barrier too. -/
abbrev Cel : Type := Unit ⊕ Own

abbrev ownSem : Own → SemLoc sig
  | .inl s => .dma (cpS s)
  | .inr (.inl s) => .dma (sdS s)
  | .inr (.inr s) => .dma (rvS s)
abbrev celSem : Cel → SemLoc sig
  | .inl _ => .reg barS
  | .inr o => ownSem o

/-- Cell `k` of device `c`. -/
abbrev cell (ck : Dev nD × Cel) : GSem nD τ sig := ((ck.1 : Thread nD τ), celSem ck.2)
abbrev barCell (c : Dev nD) : GSem nD τ sig := ((c : Thread nD τ), .reg barS)
abbrev cpCell (c : Dev nD) (s : Fin 8) : GSem nD τ sig := ((c : Thread nD τ), .dma (cpS s))
abbrev sdCell (c : Dev nD) (s : Fin 6) : GSem nD τ sig := ((c : Thread nD τ), .dma (sdS s))
abbrev rvCell (c : Dev nD) (s : Fin 6) : GSem nD τ sig := ((c : Thread nD τ), .dma (rvS s))

/-- Which of the kernel's cells a semaphore is, if any. -/
def kind : SemLoc sig → Option Cel
  | .reg _ => some (.inl ())
  | .dma q =>
    if h : 2 ≤ q.val ∧ q.val < 10 then some (.inr (.inl ⟨q.val - 2, by omega⟩))
    else if h : 10 ≤ q.val ∧ q.val < 16 then some (.inr (.inr (.inl ⟨q.val - 10, by omega⟩)))
    else if h : 16 ≤ q.val ∧ q.val < 22 then some (.inr (.inr (.inr ⟨q.val - 16, by omega⟩)))
    else none

theorem kind_own : ∀ o : Own, kind (ownSem o) = some (.inr o) := by decide +kernel
theorem kind_cel (k : Cel) : kind (celSem k) = some k := by
  rcases k with ⟨⟩ | o
  · rfl
  · exact kind_own o
theorem kind_bar : kind (.reg barS) = some (.inl ()) := rfl
theorem kind_cp (s : Fin 8) : kind (.dma (cpS s)) = some (.inr (.inl s)) := kind_own (.inl s)
theorem kind_sd (s : Fin 6) : kind (.dma (sdS s)) = some (.inr (.inr (.inl s))) := kind_own (.inr (.inl s))
theorem kind_rv (s : Fin 6) : kind (.dma (rvS s)) = some (.inr (.inr (.inr s))) := kind_own (.inr (.inr s))

theorem celSem_inj : Function.Injective celSem := fun a b h =>
  Option.some.inj ((kind_cel a).symm.trans ((congrArg kind h).trans (kind_cel b)))
theorem cell_inj : Function.Injective cell := fun a b h =>
  Prod.ext (congrArg (fun g : GSem nD τ sig => g.1.1) h) (celSem_inj (congrArg Prod.snd h))

/-- The credit of one copy of `w` columns, and of one tile's transfer. -/
def Nw : ℕ := (wQ 0).view.dmaCredit
def Nt : ℕ := (rQ 0).view.dmaCredit
theorem credit_w (s : Fin 8) : (wQ s).view.dmaCredit = Nw := rfl
theorem credit_r (s : Fin 6) : (rQ s).view.dmaCredit = Nt := rfl
theorem credit_s (s : Fin 6) : (sQ s).view.dmaCredit = Nt := rfl
theorem Nw_pos : 0 < Nw := View.dmaCredit_pos _ (by decide)
theorem Nt_pos : 0 < Nt := View.dmaCredit_pos _ (by decide)

/-! ## The slots are disjoint -/

/-- Slots of three axes that differ on the first are disjoint. -/
theorem wR_disjoint {s s' : Fin 8} (h : s ≠ s') : Disjoint (wR s).set (wR s').set :=
  Rect.disjoint_of_axis _ _ (0 : Fin 3) fun j₁ h₁ j₂ h₂ he => h (Fin.ext (by
    have e : s.val + 1 * j₁ = s'.val + 1 * j₂ := he
    have h₁' : j₁ < 1 := h₁
    have h₂' : j₂ < 1 := h₂
    omega))
theorem sR_disjoint {s s' : Fin 6} (h : s ≠ s') : Disjoint (sR s).set (sR s').set :=
  Rect.disjoint_of_axis _ _ (0 : Fin 3) fun j₁ h₁ j₂ h₂ he => h (Fin.ext (by
    have e : s.val + 1 * j₁ = s'.val + 1 * j₂ := he
    have h₁' : j₁ < 1 := h₁
    have h₂' : j₂ < 1 := h₂
    omega))

theorem wS_disjoint (s s' : Fin 8) (h : s ≠ s') : Disjoint (wS s).view.set (wS s').view.set :=
  View.disjoint_slice (v := wB.view) (wR_disjoint h)
theorem sS_disjoint (s s' : Fin 6) (h : s ≠ s') : Disjoint (sS s).view.set (sS s').view.set :=
  View.disjoint_slice (v := sB.view) (sR_disjoint h)
theorem rS_disjoint (s s' : Fin 6) (h : s ≠ s') : Disjoint (rS s).view.set (rS s').view.set :=
  View.disjoint_slice (v := rB.view) (sR_disjoint h)

/-! ## The result's tiles -/

/-- The slot whose tile holds row `i 0`, column `i 1` of device `c`'s result. -/
def slotAt (c : Dev nD) (i : S2048x512.Idx) : Fin 8 :=
  ⟨(2 * ((c.val + 7 - (i 0).val / 512) % 4) + (i 1).val / 256) % 8, Nat.mod_lt _ (by decide)⟩
/-- Its place within the tile. -/
def inTile (i : S2048x512.Idx) : S512x256.Idx
  | 0 => ⟨(i 0).val % 512, Nat.mod_lt _ (by decide)⟩
  | 1 => ⟨(i 1).val % 256, Nat.mod_lt _ (by decide)⟩

/-- A tile's own indices are placed in its slot and nowhere else. -/
theorem slotAt_emb (c : Dev nD) (s : Fin 8) (y : S512x256.Idx) : slotAt c ((oR c s).emb y) = s ∧ inTile ((oR c s).emb y) = y := by
  have h0 : (((oR c s).emb y) 0 : ℕ) = orow c s + 1 * (y 0).val := rfl
  have h1 : (((oR c s).emb y) 1 : ℕ) = ocol s + 1 * (y 1).val := rfl
  have b0 : (y 0).val < 512 := (y 0).isLt
  have b1 : (y 1).val < 256 := (y 1).isLt
  have hs := s.isLt
  have hc : c.val < 4 := c.isLt
  unfold orow at h0; unfold ocol at h1
  refine ⟨Fin.ext ?_, funext fun a => Fin.ext ?_⟩
  · show (2 * ((c.val + 7 - (((oR c s).emb y) 0 : ℕ) / 512) % 4) + (((oR c s).emb y) 1 : ℕ) / 256) % 8 = s.val
    rw [h0, h1]; omega
  · match a with
    | 0 => show (((oR c s).emb y) 0 : ℕ) % 512 = (y 0).val; rw [h0]; omega
    | 1 => show (((oR c s).emb y) 1 : ℕ) % 256 = (y 1).val; rw [h1]; omega

/-- Every index of the result is its place in its slot's tile. -/
theorem emb_slotAt (c : Dev nD) (i : S2048x512.Idx) : (oR c (slotAt c i)).emb (inTile i) = i := by
  have b0 : (i 0).val < 2048 := (i 0).isLt
  have b1 : (i 1).val < 512 := (i 1).isLt
  have hc : c.val < 4 := c.isLt
  refine funext fun a => Fin.ext ?_
  match a with
  | 0 =>
    show 512 * ((c.val + 7 - ((2 * ((c.val + 7 - (i 0).val / 512) % 4) + (i 1).val / 256) % 8) / 2) % 4) + 1 * ((i 0).val % 512) = (i 0).val
    omega
  | 1 =>
    show 256 * (((2 * ((c.val + 7 - (i 0).val / 512) % 4) + (i 1).val / 256) % 8) % 2) + 1 * ((i 1).val % 256) = (i 1).val
    omega

theorem oR_disjoint (c : Dev nD) {s s' : Fin 8} (h : s ≠ s') : Disjoint (oR c s).set (oR c s').set := by
  rw [← Rect.map_emb_univ, ← Rect.map_emb_univ, Finset.disjoint_left]
  intro i hi hi'
  obtain ⟨y, -, rfl⟩ := Finset.mem_map.mp hi
  obtain ⟨y', -, he⟩ := Finset.mem_map.mp hi'
  exact h ((slotAt_emb c s y).1.symm.trans ((congrArg (slotAt c) he.symm).trans (slotAt_emb c s' y').1))

end Cert.KernelProof

end
-- ==== Proof.Values.lean ====
/-
What the buffers hold: the tile in every slot, on every device, and the result.
-/
module

public import proofs.«01_k».proof.Proof.Slots

@[expose] public section

noncomputable section

namespace Cert.KernelProof

open Cert.KernelIdeal Cert.KernelIdeal.Gen
open Idealize.ShloMosaic Idealize.ShloMosaic.TcCoe

variable {F : FTy → Type} [FloatOps F]
variable (m : (ℓ : Loc nD τ sig) → Buf (Elt F) ℓ)

/-- Device `c`'s block of `x`, as staged. -/
def xBlk (c : Dev nD) : (cc0_stg0_0 : Ref sig .tc).ty.Contents (Elt F) :=
  (win0_0.blk (0 : Fin 1)).view.read (Elt F) (m ((c : Thread nD τ).loc main_arg0))

/-- Device `c`'s `w`. -/
abbrev wArr (c : Dev nD) : Buf (Elt F) ((c : Thread nD τ).loc main_arg1) := m ((c : Thread nD τ).loc main_arg1)

/-- Slot `s` of the `w` scratch once its copy has landed: the columns it takes, under a leading axis of one. -/
def wVal (c : Dev nD) (s : Fin 8) : Vec F S1x2048x256 .f32 := fun x =>
  (aC c s).view.read (Elt F) (wArr m c) ((Shape.reshapeEquiv squeezes_S1x2048x256_S2048x256.numel_eq).symm x)

/-- The tile device `c` computes into send slot `s`. -/
def sVal (c : Dev nD) (s : Fin 6) : FVec F S1x512x256 .bf16 := k0_pay2 (k0_pay1 (xBlk m c)) (wVal m c (slot8 s))

/-- The tile that device `c` stores for slot `s`: one received, or one of its own two. -/
def tVal (c : Dev nD) (s : Fin 8) : FVec F S512x256 .f32 :=
  if h : s.val < 6 then k0_pay14 (sVal m (src c ⟨s.val, h⟩) ⟨s.val, h⟩)
  else k0_pay13 (k0_pay1 (xBlk m c)) (wVal m c s)

theorem tVal_sent (c : Dev nD) (s : Fin 6) : tVal m c (slot8 s) = k0_pay14 (sVal m (src c s) s) := dif_pos s.isLt
theorem tVal_six (c : Dev nD) : tVal m c 6 = k0_pay13 (k0_pay1 (xBlk m c)) (wVal m c 6) := dif_neg (by decide)
theorem tVal_seven (c : Dev nD) : tVal m c 7 = k0_pay13 (k0_pay1 (xBlk m c)) (wVal m c 7) := dif_neg (by decide)

/-- Device `c`'s result: every element is its slot's tile at its place there. -/
def outAt (c : Dev nD) : (cc0_stg1_0 : Ref sig .tc).ty.Contents (Elt F) := fun i => tVal m c (slotAt c i) (inTile i)

/-! ## Reading a slot -/

/-- A slot written through its rank-two memref reads, at rank three, as what was written. -/
theorem read_w_landed (s : Fin 8) (fd : (cc0_scratch0 : Ref sig .tc).ty.Contents (Elt F)) (Y : S2048x256.Idx → Elt F .f32) :
    (wS s).view.read (Elt F) ((wQ s).view.write (Elt F) fd Y Finset.univ)
      = fun x => Y ((Shape.reshapeEquiv squeezes_S1x2048x256_S2048x256.numel_eq).symm x) := by
  funext x
  have h := congrFun (View.read_write_univ (v := (wQ s).view) fd Y)
    ((Shape.reshapeEquiv squeezes_S1x2048x256_S2048x256.numel_eq).symm x)
  have e : (wQ s).view.read (Elt F) ((wQ s).view.write (Elt F) fd Y Finset.univ)
        ((Shape.reshapeEquiv squeezes_S1x2048x256_S2048x256.numel_eq).symm x)
      = (wS s).view.read (Elt F) ((wQ s).view.write (Elt F) fd Y Finset.univ)
        (Shape.reshapeEquiv squeezes_S1x2048x256_S2048x256.numel_eq ((Shape.reshapeEquiv squeezes_S1x2048x256_S2048x256.numel_eq).symm x)) := rfl
  rw [Equiv.apply_symm_apply] at e
  exact e.symm.trans h

/-- A receive slot written with what a send slot reads, reads as the send slot does. -/
theorem read_r_landed (s : Fin 6) (fd : (cc0_scratch2 : Ref sig .tc).ty.Contents (Elt F)) (fs : (cc0_scratch1 : Ref sig .tc).ty.Contents (Elt F)) :
    (rS s).view.read (Elt F) ((rQ s).view.write (Elt F) fd ((sQ s).view.read (Elt F) fs) Finset.univ) = (sS s).view.read (Elt F) fs := by
  funext x
  obtain ⟨y, rfl⟩ := (Shape.reshapeEquiv squeezes_S1x512x256_S512x256.numel_eq).surjective x
  exact congrFun (View.read_write_univ (v := (rQ s).view) fd ((sQ s).view.read (Elt F) fs)) y

/-- A send slot stored through the whole memref reads as what was stored. -/
theorem read_s_stored (s : Fin 6) (f : (cc0_scratch1 : Ref sig .tc).ty.Contents (Elt F)) (w : S1x512x256.Idx → Elt F .bf16) :
    (sS s).view.read (Elt F) ((sB.access (sR s)).write (Elt F) f w Finset.univ) = w :=
  View.read_write_univ (v := (sS s).view) f w

/-! ## Filling the result -/

/-- The result buffer holds the tiles of the slots in `T`. -/
def Filled (c : Dev nD) (T : List (Fin 8)) (f : (cc0_stg1_0 : Ref sig .tc).ty.Contents (Elt F)) : Prop :=
  ∀ s ∈ T, (oM.access (oR c s)).read (Elt F) f = tVal m c s

theorem Filled.nil (c : Dev nD) (f : (cc0_stg1_0 : Ref sig .tc).ty.Contents (Elt F)) : Filled m c [] f :=
  fun s h => absurd h List.not_mem_nil

/-- Storing one more slot's tile keeps the others'. -/
theorem Filled.store {c : Dev nD} {T : List (Fin 8)} {f : (cc0_stg1_0 : Ref sig .tc).ty.Contents (Elt F)} (h : Filled m c T f) (s : Fin 8) (hs : s ∉ T) :
    Filled m c (s :: T) ((oM.access (oR c s)).write (Elt F) f (tVal m c s) Finset.univ) := fun s' hs' => by
  rcases List.mem_cons.mp hs' with rfl | hs'
  · exact View.read_write_univ (v := oM.access (oR c s')) f _
  · rw [← h s' hs']
    exact View.read_slice_write_slice_of_disjoint (v := oM.view) (oR c s') (oR c s) f _ Finset.univ
      (View.disjoint_slice (oR_disjoint c fun e => hs (e ▸ hs')))

/-- All eight tiles are the whole result. -/
theorem Filled.all {c : Dev nD} {T : List (Fin 8)} {f : (cc0_stg1_0 : Ref sig .tc).ty.Contents (Elt F)} (h : Filled m c T f) (hT : ∀ s, s ∈ T) :
    f = outAt m c := by
  funext i
  have := congrFun (h (slotAt c i) (hT _)) (inTile i)
  have e : (oM.access (oR c (slotAt c i))).read (Elt F) f (inTile i) = f ((oR c (slotAt c i)).emb (inTile i)) := rfl
  rw [emb_slotAt] at e
  exact e.symm.trans this

end Cert.KernelProof

end
-- ==== Proof.Sched.lean ====
/-
The schedule: who pays each semaphore, how much, and what the payment hands over.

* Device `c`'s barrier cell is paid one unit by each other device.  The device `j + 1` steps ahead (duty `j`) hands over
  its receive slots `2 j` and `2 j + 1`, at any contents: they are where `c`'s two tiles for it land.
* Copy cell `s` is paid by the copy of `w` columns into slot `s`, and hands over the slot holding them.
* Send cell `s` is paid when the tile in send slot `s` has been read, and hands the slot back.
* Receive cell `s` is paid by the landing, and hands over the receive slot holding the sender's tile.
-/
module

public import proofs.«01_k».proof.Proof.Values

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging protocol's copy, and the kernel's own, its duties named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The slots as resources -/

/-- Slot `s` of a scratch buffer of device `c`, at any contents. -/
def wAny (c : Dev nD) (s : Fin 8) : sProp 𝕄 := iprop(∃ f, (wS s).view.loc (c : Thread nD τ) ↦[(wS s).view.set]{fullShare} f)
def sAny (c : Dev nD) (s : Fin 6) : sProp 𝕄 := iprop(∃ f, (sS s).view.loc (c : Thread nD τ) ↦[(sS s).view.set]{fullShare} f)
def rAny (c : Dev nD) (s : Fin 6) : sProp 𝕄 := iprop(∃ f, (rS s).view.loc (c : Thread nD τ) ↦[(rS s).view.set]{fullShare} f)
/-- The same holding the slot's tile. -/
def wHas (c : Dev nD) (s : Fin 8) : sProp 𝕄 := owns (c : Thread nD τ) (wS s) fullShare (wVal m c s)
def sHas (c : Dev nD) (s : Fin 6) : sProp 𝕄 := owns (c : Thread nD τ) (sS s) fullShare (sVal m c s)
def rHas (c : Dev nD) (s : Fin 6) : sProp 𝕄 := owns (c : Thread nD τ) (rS s) fullShare (sVal m (src c s) s)

omit [FloatOps F] in
instance sAny_storable (c : Dev nD) (s : Fin 6) : BI.Storable (upEmb : UEmb _ 𝕄) (sAny (F := F) c s) := by unfold sAny; infer_instance
omit [FloatOps F] in
instance rAny_storable (c : Dev nD) (s : Fin 6) : BI.Storable (upEmb : UEmb _ 𝕄) (rAny (F := F) c s) := by unfold rAny; infer_instance
instance wHas_storable (c : Dev nD) (s : Fin 8) : BI.Storable (upEmb : UEmb _ 𝕄) (wHas m c s) := by unfold wHas; infer_instance
instance rHas_storable (c : Dev nD) (s : Fin 6) : BI.Storable (upEmb : UEmb _ 𝕄) (rHas m c s) := by unfold rHas; infer_instance

/-- The two slots of hop `j`. -/
def lo (j : Fin 3) : Fin 6 := ⟨2 * j.val, by omega⟩
def hi (j : Fin 3) : Fin 6 := ⟨2 * j.val + 1, by omega⟩

/-! ## The schedule -/

/-- What duty `j` of device `c`'s barrier cell hands over. -/
def barPay (c : Dev nD) (j : Fin 3) : sProp 𝕄 := iprop(rAny (F := F) (ahead j c) (lo j) ∗ rAny (F := F) (ahead j c) (hi j))

def dutiesOf : Option Cel → Finset (Fin 3)
  | none => ∅
  | some (.inl _) => Finset.univ
  | some (.inr _) => {0}

def amountOf : Option Cel → ℕ
  | some (.inr (.inl _)) => Nw
  | some (.inr (.inr _)) => Nt
  | _ => 1

def payOf (c : Dev nD) (d : Fin 3) : Option Cel → sProp 𝕄
  | none => iprop(emp)
  | some (.inl _) => barPay c d
  | some (.inr (.inl s)) => wHas m c s
  | some (.inr (.inr (.inl s))) => sAny c s
  | some (.inr (.inr (.inr s))) => rHas m c s

/-- One round: each of the kernel's cells, on a TensorCore, by its kind. -/
def Rd : Rounds.Schedule (GSem nD τ sig) (Fin 3) 𝕄 where
  duties g r := if r = 0 ∧ g.1.2 = .tc then dutiesOf (kind g.2) else ∅
  unitless _ := False
  amount g _ _ := amountOf (kind g.2)
  payload g _ d := payOf m g.1.1 d (kind g.2)
  amount_pos g _ _ _ := by
    show 0 < amountOf (kind g.2)
    unfold amountOf; split
    · exact Nw_pos
    · exact Nt_pos
    · exact Nat.one_pos

instance Rd_storable (g : GSem nD τ sig) (r : ℕ) (d : Fin 3) : BI.Storable (upEmb : UEmb _ 𝕄) ((Rd m).payload g r d) := by
  show BI.Storable upEmb (payOf m g.1.1 d (kind g.2))
  unfold payOf barPay; split <;> infer_instance

section Facts
variable (c : Dev nD)

theorem duties_cell (k : Cel) : (Rd m).duties (cell (c, k)) 0 = dutiesOf (some k) := by
  dsimp only [Rd]; rw [if_pos ⟨rfl, rfl⟩, kind_cel]
theorem duties_later (g : GSem nD τ sig) : ∀ r, 1 ≤ r → (Rd m).duties g r = ∅ := fun r hr => if_neg fun h => by omega
theorem amount_cell (k : Cel) (d : Fin 3) : (Rd m).amount (cell (c, k)) 0 d = amountOf (some k) := by
  show amountOf (kind (celSem k)) = _; rw [kind_cel]
theorem payload_cell (k : Cel) (d : Fin 3) : (Rd m).payload (cell (c, k)) 0 d = payOf m c d (some k) := by
  show payOf m c d (kind (celSem k)) = _; rw [kind_cel]

theorem expect_bar : (Rd m).expect (cell (c, .inl ())) 0 = 3 := by
  unfold Schedule.expect Schedule.amountOf
  rw [duties_cell, Finset.sum_congr rfl fun d _ => amount_cell m c (.inl ()) d]; rfl
theorem expect_own (o : Own) : (Rd m).expect (cell (c, .inr o)) 0 = amountOf (some (.inr o)) := by
  unfold Schedule.expect Schedule.amountOf
  rw [duties_cell, Finset.sum_congr rfl fun d _ => amount_cell m c (.inr o) d]
  exact Finset.sum_singleton _ _

/-- The whole round of a cell of one duty hands over that duty's payload. -/
theorem rest_own (o : Own) : bigSep ((Rd m).duties (cell (c, .inr o)) 0 \ ∅) (fun d => (Rd m).payload (cell (c, .inr o)) 0 d) = payOf m c 0 (some (.inr o)) := by
  rw [Finset.sdiff_empty, duties_cell]
  show bigSep {0} _ = _
  rw [bigSep_singleton, payload_cell]
/-- The barrier cell's round hands over, from each hop, the two receive slots there. -/
theorem rest_bar : bigSep ((Rd m).duties (cell (c, .inl ())) 0 \ ∅) (fun d => (Rd m).payload (cell (c, .inl ())) 0 d)
    = iprop(barPay c 0 ∗ barPay c 1 ∗ barPay c 2) := by
  rw [Finset.sdiff_empty, duties_cell]
  show bigSep Finset.univ _ = _
  rw [bigSep_univ_eq_bigSepL [0, 1, 2] (by decide) (by decide), bigSepL_cons_cons, bigSepL_cons_cons, bigSepL_singleton,
    payload_cell, payload_cell, payload_cell]
  rfl

end Facts

/-! ## What each device owes at launch; the levels -/

/-- The credit of slot `s`, owed to the receive cell of the device it goes to. -/
abbrev oweTile (c : Dev nD) (s : Fin 6) : CellTallies nD τ sig Unit := tallyAt (rvCell (tgt c s) s) () Nt
/-- The unit owed to the barrier cell `j + 1` steps ahead. -/
abbrev oweBar (c : Dev nD) (j : Fin 3) : CellTallies nD τ sig Unit := tallyAt (barCell (ahead j c)) () 1

/-- What is still owed to receive cells when the last `n` slots are yet to be sent. -/
def oweTiles (c : Dev nD) : ℕ → CellTallies nD τ sig Unit
  | 0 => 0
  | n + 1 => oweTiles c n + oweTile c ⟨5 - n, by omega⟩
/-- What is still owed when the last `n` barrier signals and all the slots are. -/
def oweBars (c : Dev nD) : ℕ → CellTallies nD τ sig Unit
  | 0 => oweTiles c 6
  | n + 1 => oweBars c n + oweBar c ⟨2 - n, by omega⟩
abbrev O₀ (c : Dev nD) : CellTallies nD τ sig Unit := oweBars c 3

def L (g : GSem nD τ sig) : Finset Unit := if g.1.2 = .tc then {()} else ∅
/-- Barrier cells at 1, receive cells at 2, every other at 0. -/
def lvOf : Option Cel → ℕ
  | some (.inl _) => 1
  | some (.inr (.inr (.inr _))) => 2
  | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed is owed to TensorCores' cells above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem Above.tally {n : ℕ} {g : GSem nD τ sig} (hg : g.1.2 = .tc) (hn : n < lv g ()) (k : ℕ) : Above n (tallyAt g () k) := fun g' u h => by
  rw [tallyAt_apply] at h
  by_cases e : g' = g ∧ u = ()
  · rw [e.1]; exact ⟨hg, hn⟩
  · rw [if_neg e] at h; exact absurd h (Nat.lt_irrefl 0)
theorem above_tiles (c : Dev nD) : ∀ n, Above 1 (oweTiles c n)
  | 0 => Above.zero 1
  | n + 1 => (above_tiles c n).add (Above.tally rfl (by show 1 < lvOf (kind (.dma (rvS _))); rw [kind_rv]; exact Nat.one_lt_two) _)
theorem Above.mono {n n' : ℕ} (h : n' ≤ n) {O : CellTallies nD τ sig Unit} (hO : Above n O) : Above n' O :=
  fun g u hg => ⟨(hO g u hg).1, Nat.lt_of_le_of_lt h (hO g u hg).2⟩
theorem above_bars (c : Dev nD) : ∀ n, Above 0 (oweBars c n)
  | 0 => (above_tiles c 6).mono (Nat.zero_le 1)
  | n + 1 => (above_bars c n).add (Above.tally rfl (by show 0 < lvOf (kind (.reg barS)); rw [kind_bar]; decide) _)

omit [FloatOps F] in
/-- A cell may be waited on while everything owed is above its level. -/
theorem mayWait_of_above (c : Dev nD) (sm : SemLoc sig) {n : ℕ} (hsm : lvOf (kind sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Cert.KernelProof

end
-- ==== Proof.Steps.lean ====
/-
One step of the kernel, for each kind of step it takes, the slot a variable: what the step needs and what it leaves.
-/
module

public import proofs.«01_k».proof.Proof.Sched

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cel → ℕ)

abbrev 𝒱₀ : Variants := Variants.none

/-- The program `p` run on device `c`, to the postcondition `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What everyone knows, and what a device still owes -/

/-- Every cell's invariant, at the names `K`, and that every cell has reached round 0. -/
def known : sProp 𝕄 :=
  iprop((bigSep Finset.univ fun ck : Dev nD × Cel => cellInv ER (Rd m) (K ck) (cell ck))
    ∗ bigSep Finset.univ fun ck : Dev nD × Cel => reached ER (cell ck) 0)

instance known_persistent : BI.Persistent (known m K) := by unfold known; infer_instance

theorem known_inv (ck : Dev nD × Cel) : known m K ⊢ cellInv ER (Rd m) (K ck) (cell ck) := by
  unfold known; iintro ⟨H, -⟩
  have h : (bigSep Finset.univ fun ck : Dev nD × Cel => (cellInv ER (Rd m) (K ck) (cell ck) : sProp 𝕄)) ⊢ cellInv ER (Rd m) (K ck) (cell ck) :=
    bigSep_elim (Finset.mem_univ ck)
  iapply h; iexact H
theorem known_reached (ck : Dev nD × Cel) : known m K ⊢ (reached ER (cell ck) 0 : sProp 𝕄) := by
  unfold known; iintro ⟨-, H⟩
  have h : (bigSep Finset.univ fun ck : Dev nD × Cel => (reached ER (cell ck) 0 : sProp 𝕄)) ⊢ reached ER (cell ck) 0 :=
    bigSep_elim (Finset.mem_univ ck)
  iapply h; iexact H

/-- Device `c` owes `O`, whatever it has waited on. -/
def hold (c : Dev nD) (O : CellTallies nD τ sig Unit) : sProp 𝕄 := iprop(∃ W : Waits sig Unit, owes (c : Thread nD τ) O W)

/-! ## The waits -/

/-- A wait for a whole round of one of the launch's own cells: the counter comes back at zero, with what was handed over. -/
theorem own_wait (c : Dev nD) (o : Own) {w : TpuEff nD τ sig (Elt F) Λ₀ .tc PUnit} {a : ℕ}
    (hw : ∀ J : PUnit → sProp 𝕄, wpE (defs₀ (F := F)) 𝒱₀ (c : Thread nD τ) none Set.univ w J = waitSpec (c : Thread nD τ) Set.univ (ownSem o) a J)
    (ha : a = amountOf (some (.inr o))) {O : CellTallies nD τ sig Unit} (hO : Above (lvOf (some (.inr o))) O)
    {α : Type} {Q : α → sProp 𝕄} {k : PUnit → Prog (TpuEff nD τ sig (Elt F) Λ₀ .tc) α} :
    iprop(known m K ∗ levAts L lv ∗ atPos ER (cell (c, .inr o)) 0 ∅ 0 ∗ cred (tallyAt (cell (c, .inr o)) () (amountOf (some (.inr o)))) ∗ hold (F := F) c O)
      ⊢ iprop(((hold c O ∗ semVal (cell (c, .inr o)) 0 ∗ payOf m c 0 (some (.inr o))) -∗ run c (k ⟨⟩) Q) -∗ run c (.op w k) Q) := by
  subst ha
  unfold hold
  iintro ⟨#HK, #Hlev, Hat, Hcr, ⟨%W, HO⟩⟩ Hk
  iapply (Rounds.wp_wait_rest_token 𝒱₀ ER (Rd m) (c : Thread nD τ) none (κ := K (c, .inr o)) hw (Set.mem_univ _) () (O := O) (W := W) (R := 0) (m := 0) (T := ∅)
      (by rw [Nat.zero_add]; exact (expect_own m c o).symm)) $$ [Hat Hcr HO]
  · isplitr; · iapply (known_inv m K (c, .inr o)); iexact HK
    isplitl [Hcr]; · iexact Hcr
    isplitl [HO]; · iexact HO
    isplitr; · iapply (mayWait_of_above (F := F) c (ownSem o) (n := lvOf (some (.inr o))) (by rw [kind_own]) hO); iexact Hlev
    iexact Hat
  iintro ⟨HO, Hat, -, Hpay⟩
  ihave Hp := (Entails.of_eq (rest_own m c o)) $$ Hpay
  imod (Rounds.cell_close ER (Rd m) (Set.mem_univ (K (c, .inr o))) (fun h => h) (R := 0 + 1) (duties_later m (cell (c, .inr o)))) $$ [Hat] with Hz
  · isplitr; · iapply (known_inv m K (c, .inr o)); iexact HK
    iexact Hat
  iapply Hk
  isplitl [HO]; · iexists _; iexact HO
  isplitl [Hz] <;> iassumption

/-- The wait for three units of the barrier cell: all six receive slots that the device sends into. -/
theorem bar_wait (c : Dev nD) {a : ℕ} (ha : a = 3) {O : CellTallies nD τ sig Unit} (hO : Above 1 O)
    {α : Type} {Q : α → sProp 𝕄} {k : PUnit → Prog (TpuEff nD τ sig (Elt F) Λ₀ .tc) α} :
    iprop(known m K ∗ levAts L lv ∗ atPos ER (barCell c) 0 ∅ 0 ∗ cred (tallyAt (barCell c) () 3) ∗ hold (F := F) c O)
      ⊢ iprop(((hold c O ∗ semVal (barCell c) 0 ∗ barPay (F := F) c 0 ∗ barPay (F := F) c 1 ∗ barPay (F := F) c 2) -∗ run c (k ⟨⟩) Q)
        -∗ run c (.op (.semWait barS a) k) Q) := by
  subst ha
  unfold hold
  iintro ⟨#HK, #Hlev, Hat, Hcr, ⟨%W, HO⟩⟩ Hk
  iapply (Rounds.wp_wait_rest_token 𝒱₀ ER (Rd m) (c : Thread nD τ) none (κ := K (c, .inl ())) (wpE_semWait_eq 𝒱₀ (c : Thread nD τ) none Set.univ)
      (Set.mem_univ _) () (O := O) (W := W) (R := 0) (m := 0) (T := ∅) (by rw [Nat.zero_add]; exact (expect_bar m c).symm)) $$ [Hat Hcr HO]
  · isplitr; · iapply (known_inv m K (c, .inl ())); iexact HK
    isplitl [Hcr]; · iexact Hcr
    isplitl [HO]; · iexact HO
    isplitr; · iapply (mayWait_of_above (F := F) c (.reg barS) (n := 1) (by rw [kind_bar]; exact Nat.le_refl 1) hO); iexact Hlev
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hz
  · isplitr; · iapply (known_inv m K (c, .inl ())); iexact HK
    iexact Hat
  iapply Hk
  isplitl [HO]; · iexists _; iexact HO
  isplitl [Hz] <;> iassumption

/-! ## The barrier signals -/

/-- Signalling the device `j + 1` steps ahead: it is given the two receive slots its tiles for `c` land in. -/
theorem bar_signal (c n : Dev nD) (j : Fin 3) (hn : n = ahead j c) {a : ℕ} (ha : a = 1) {O : CellTallies nD τ sig Unit}
    {α : Type} {Q : α → sProp 𝕄} {k : PUnit → Prog (TpuEff nD τ sig (Elt F) Λ₀ .tc) α} :
    iprop(known m K ∗ dutyTok ER (barCell (ahead j c)) 0 j.rev ∗ (rAny (F := F) c (lo j.rev) ∗ rAny (F := F) c (hi j.rev)) ∗ hold (F := F) c (O + oweBar c j))
      ⊢ iprop((hold c O -∗ run c (k ⟨⟩) Q) -∗ run c (.op (.semSignal (n : Thread nD τ) barS a) k) Q) := by
  subst hn ha
  have hb : ahead j.rev (ahead j c) = c := by revert j c; decide
  unfold hold
  iintro ⟨#HK, Ht, Hr, ⟨%W, HO⟩⟩ Hk
  iapply (Rounds.wp_signal 𝒱₀ ER (Rd m) (c : Thread nD τ) none (dst := (ahead j c : Thread nD τ)) (κ := K (ahead j c, .inl ()))
      (d := j.rev) (by rw [duties_cell m (ahead j c) (.inl ())]; exact Finset.mem_univ _) (amount_cell m (ahead j c) (.inl ()) j.rev) () O rfl)
    $$ [HO Ht Hr]
  · isplitr; · iapply (known_inv m K (ahead j c, .inl ())); iexact HK
    isplitl [HO]; · iexact HO
    isplitl [Ht]; · iexact Ht
    isplitl [Hr]
    · rw [payload_cell m (ahead j c) (.inl ()) j.rev, show payOf m (ahead j c) j.rev (some (.inl ())) = barPay (ahead j c) j.rev from rfl]
      unfold barPay; rw [hb]; iexact Hr
    iapply (known_reached m K (ahead j c, .inl ())); iexact HK
  iintro HO
  iapply Hk
  iexists _; iexact HO

/-! ## The copies and the transfers -/

/-- Issuing the copy of slot `s`'s columns of `w`. -/
theorem copy_issue (c : Dev nD) (s : Fin 8) {off : Fin 2 → ℕ} (hoff : off = ![0, wcol c s]) {inb : ∀ a, off a + S2048x256.size a ≤ S2048x2048.size a}
    {hu : ∀ a, (Rect.unit (s := S2048x2048) off S2048x256.size inb).stride a = 1}
    {hsrc : (aM.slice (Rect.unit (s := S2048x2048) off S2048x256.size inb) hu).view.WordExact} {hdst : (wQ s).view.WordExact}
    {hsem : DmaTarget.Typed (nD := nD) .hbm (.dma (cpS s)) (DmaTarget.here (p := .tc) (wQ s))} {q : PosShare TreeShare}
    {α : Type} {Q : α → sProp 𝕄} {k : PUnit → Prog (TpuEff nD τ sig (Elt F) Λ₀ .tc) α} :
    iprop(known m K ∗ dutyTok ER (cpCell c s) 0 0 ∗ wAny (F := F) c s ∗ ((aC c s).view.loc (c : Thread nD τ) ↦[(aC c s).view.set]{q} wArr m c))
      ⊢ iprop((cred (tallyAt (cpCell c s) () Nw) -∗ run c (k ⟨⟩) Q)
        -∗ run c (.op (.enqueueDma (aM.slice (Rect.unit (s := S2048x2048) off S2048x256.size inb) hu) (DmaTarget.here (p := .tc) (wQ s)) (.dma (cpS s)) hsrc hdst hsem) k) Q) := by
  subst hoff
  unfold wAny
  iintro ⟨#HK, Ht, ⟨%fd, Hw⟩, Ha⟩ Hk
  iapply (Rounds.wp_copy_pointsTo 𝒱₀ ER (Rd m) (c : Thread nD τ) none (src := aC c s) (dst := wQ s) (sem := .dma (cpS s)) (κ := K (c, .inr (.inl s))) (q := q) (fs := wArr m c) (fd := fd) (r := 0) (d := 0)
      (by rw [duties_cell m c (.inr (.inl s))]; exact Finset.mem_singleton_self _) () Nw (credit_w s) (amount_cell m c (.inr (.inl s)) 0)
      (by
        rw [payload_cell m c (.inr (.inl s)) 0, show payOf m c 0 (some (.inr (.inl s))) = wHas m c s from rfl]
        unfold wHas owns
        rw [View.set_reshape]
        iintro ⟨Hw, -⟩
        iexists _
        isplitr
        · ipureintro; exact read_w_landed s fd _
        iexact Hw)) $$ [Ht Hw Ha]
  · isplitr; · iapply (known_inv m K (c, .inr (.inl s))); iexact HK
    isplitl [Ha]; · iexact Ha
    isplitl [Hw]; · rw [View.set_reshape]; iexact Hw
    isplitl [Ht]; · iexact Ht
    iapply (known_reached m K (c, .inr (.inl s))); iexact HK
  iexact Hk

/-- Sending slot `s`'s tile: its receiver's slot is given up, and the credit owed to the receiver paid. -/
theorem send_issue (c n : Dev nD) (s : Fin 6) (hn : n = tgt c s) {hsc : (rQ s : Memref sig (Dev.tc n : Thread nD τ).2.kind .vmem S512x256 .bf16).view.ref.isScScratch = false}
    {hsrc : (sQ s).view.WordExact} {hdst : (rQ s).view.WordExact}
    {hsem : DmaTarget.Typed .vmem (.dma (rvS s)) (.remote (Dev.tc n : Thread nD τ) (rQ s) (.dma (sdS s)) hsc)} {O : CellTallies nD τ sig Unit}
    {α : Type} {Q : α → sProp 𝕄} {k : PUnit → Prog (TpuEff nD τ sig (Elt F) Λ₀ .tc) α} :
    iprop(known m K ∗ (dutyTok ER (sdCell c s) 0 0 ∗ dutyTok ER (rvCell (tgt c s) s) 0 0) ∗ sHas m c s ∗ rAny (F := F) (tgt c s) s ∗ hold (F := F) c (O + oweTile c s))
      ⊢ iprop(((cred (tallyAt (sdCell c s) () Nt) ∗ hold c O) -∗ run c (k ⟨⟩) Q)
        -∗ run c (.op (.enqueueDma (sQ s) (.remote (Dev.tc n : Thread nD τ) (rQ s) (.dma (sdS s)) hsc) (.dma (rvS s)) hsrc hdst hsem) k) Q) := by
  subst hn
  have hb : src (tgt c s) s = c := behind_ahead (hop s) c
  unfold sHas owns rAny hold
  iintro ⟨#HK, ⟨Hts, Htr⟩, ⟨%fs, %hfs, Hs⟩, ⟨%fd, Hr⟩, ⟨%W, HO⟩⟩ Hk
  iapply (Rounds.wp_send_pointsTo 𝒱₀ ER (Rd m) (c : Thread nD τ) none (c' := (tgt c s : Thread nD τ)) (src := sQ s) (dst := rQ s) (sS := .dma (sdS s)) (sem := .dma (rvS s)) (q := fullShare) (κ₁ := K (c, .inr (.inr (.inl s)))) (κ₂ := K (tgt c s, .inr (.inr (.inr s))))
      (r₁ := 0) (r₂ := 0) (d₁ := 0) (d₂ := 0) (fs := fs) (fd := fd)
      (by rw [duties_cell m c (.inr (.inr (.inl s)))]; exact Finset.mem_singleton_self _)
      (by rw [duties_cell m (tgt c s) (.inr (.inr (.inr s)))]; exact Finset.mem_singleton_self _)
      () () Nt (credit_r s) (amount_cell m c (.inr (.inr (.inl s))) 0) (amount_cell m (tgt c s) (.inr (.inr (.inr s))) 0) O rfl (W := W)
      (by
        rw [payload_cell m c (.inr (.inr (.inl s))) 0, show payOf m c 0 (some (.inr (.inr (.inl s)))) = sAny c s from rfl]
        unfold sAny
        rw [View.set_reshape]
        iintro Hs; iexists _; iexact Hs)
      (by
        rw [payload_cell m (tgt c s) (.inr (.inr (.inr s))) 0, show payOf m (tgt c s) 0 (some (.inr (.inr (.inr s)))) = rHas m (tgt c s) s from rfl]
        unfold rHas owns
        rw [View.set_reshape, hb]
        iintro Hr
        iexists _
        isplitr
        · ipureintro; exact (read_r_landed s fd fs).trans hfs
        iexact Hr)) $$ [Hts Htr Hs Hr HO]
  · isplitr; · iapply (known_inv m K (c, .inr (.inr (.inl s)))); iexact HK
    isplitr; · iapply (known_inv m K (tgt c s, .inr (.inr (.inr s)))); iexact HK
    isplitl [Hs]; · rw [View.set_reshape]; iexact Hs
    isplitl [Hr]; · rw [View.set_reshape]; iexact Hr
    isplitl [HO]; · iexact HO
    isplitl [Hts]; · iexact Hts
    isplitr; · iapply (known_reached m K (c, .inr (.inr (.inl s)))); iexact HK
    isplitl [Htr]; · iexact Htr
    iapply (known_reached m K (tgt c s, .inr (.inr (.inr s)))); iexact HK
  iintro ⟨Hc, HO⟩
  iapply Hk
  isplitl [Hc]; · iexact Hc
  iexists _; iexact HO

/-! ## The loads and the stores -/

/-- Loading slot `s` of the `w` scratch. -/
theorem w_load (c : Dev nD) (s : Fin 8) {hl : wB.view.LoadsAt (wR s).toLoadRect}
    {α : Type} {Q : α → sProp 𝕄} {k : Vec F S1x2048x256 .f32 → Prog (TpuEff nD τ sig (Elt F) Λ₀ .tc) α} :
    wHas m c s ⊢ iprop((wHas m c s -∗ run c (k (wVal m c s)) Q) -∗ run c (.op (.load wB (wR s).toLoadRect hl) k) Q) := by
  unfold wHas owns
  iintro ⟨%f, %hf, H⟩ Hk
  rw [← hf]
  iapply (wp_load_rect 𝒱₀ (c : Thread nD τ) none Set.univ (m := wB) (r := wR s) (Finset.Subset.refl _)) $$ H
  iintro H
  iapply Hk
  iexists f
  isplitr; · ipureintro; rfl
  iexact H

/-- Loading receive slot `s`. -/
theorem r_load (c : Dev nD) (s : Fin 6) {hl : rB.view.LoadsAt (sR s).toLoadRect}
    {α : Type} {Q : α → sProp 𝕄} {k : Vec F S1x512x256 .bf16 → Prog (TpuEff nD τ sig (Elt F) Λ₀ .tc) α} :
    rHas m c s ⊢ iprop((rHas m c s -∗ run c (k (sVal m (src c s) s)) Q) -∗ run c (.op (.load rB (sR s).toLoadRect hl) k) Q) := by
  unfold rHas owns
  iintro ⟨%f, %hf, H⟩ Hk
  rw [← hf]
  iapply (wp_load_rect 𝒱₀ (c : Thread nD τ) none Set.univ (m := rB) (r := sR s) (Finset.Subset.refl _)) $$ H
  iintro H
  iapply Hk
  iexists f
  isplitr; · ipureintro; rfl
  iexact H

/-- Loading send slot `s` before it is written: whatever it holds. -/
theorem s_load (c : Dev nD) (s : Fin 6) {hl : sB.view.LoadsAt (sR s).toLoadRect}
    {α : Type} {Q : α → sProp 𝕄} {k : Vec F S1x512x256 .bf16 → Prog (TpuEff nD τ sig (Elt F) Λ₀ .tc) α} :
    sAny (F := F) c s ⊢ iprop((∀ v, sAny (F := F) c s -∗ run c (k v) Q) -∗ run c (.op (.load sB (sR s).toLoadRect hl) k) Q) := by
  unfold sAny
  iintro ⟨%f, H⟩ Hk
  iapply (wp_load_rect 𝒱₀ (c : Thread nD τ) none Set.univ (m := sB) (r := sR s) (Finset.Subset.refl _)) $$ H
  iintro H
  iapply Hk
  iexists f
  iexact H

/-- Storing the tile into send slot `s`. -/
theorem s_store (c : Dev nD) (s : Fin 6) {p : S1x512x256.Idx → Elt F .bf16} (hp : p = sVal m c s) {hx : (sB.access (sR s)).Stores Finset.univ}
    {hm : (Finset.univ : Finset (sR s).shape.Idx) = Finset.univ ∨ ∀ a, (sR s).stride a = 1}
    {α : Type} {Q : α → sProp 𝕄} {k : PUnit → Prog (TpuEff nD τ sig (Elt F) Λ₀ .tc) α} :
    sAny (F := F) c s ⊢ iprop((sHas m c s -∗ run c (k ⟨⟩) Q) -∗ run c (.op (.store sB (sR s) p Finset.univ hx hm) k) Q) := by
  subst hp
  unfold sAny sHas owns
  iintro ⟨%f, H⟩ Hk
  iapply (wp_store 𝒱₀ (c : Thread nD τ) none Set.univ (m := sB) (r := sR s) (Mk := Finset.univ) (S := (sS s).view.set) (Finset.Subset.refl _)) $$ H
  iintro H
  iapply Hk
  iexists _
  isplitr; · ipureintro; exact read_s_stored s f _
  iexact H

/-- The result's buffer, the tiles of the slots in `T` in place. -/
def outHas (c : Dev nD) (T : List (Fin 8)) : sProp 𝕄 :=
  iprop(∃ f : Buf (Elt F) ((c : Thread nD τ).loc cc0_stg1_0), ⌜Filled m c T f⌝ ∗ ((c : Thread nD τ).loc cc0_stg1_0) ↦{fullShare} f)

/-- Loading from the result's buffer: whatever it holds. -/
theorem o_load (c : Dev nD) {T : List (Fin 8)} {r : LoadRect S2048x512} {hl : oM.view.LoadsAt r}
    {α : Type} {Q : α → sProp 𝕄} {k : (r.shape.Idx → Elt F .f32) → Prog (TpuEff nD τ sig (Elt F) Λ₀ .tc) α} :
    outHas m c T ⊢ iprop((∀ v, outHas m c T -∗ run c (k v) Q) -∗ run c (.op (.load oM r hl) k) Q) := by
  unfold outHas
  iintro ⟨%f, %hf, H⟩ Hk
  iapply (wp_load 𝒱₀ (c : Thread nD τ) none Set.univ (m := oM) (r := r) (Finset.subset_univ _)) $$ H
  iintro H
  iapply Hk
  iexists f
  isplitr; · ipureintro; exact hf
  iexact H

/-- Storing slot `s`'s tile of the result. -/
theorem o_store (c : Dev nD) (s : Fin 8) {T : List (Fin 8)} (hs : s ∉ T) {off : Fin 2 → ℕ} (hoff : off = ![orow c s, ocol s])
    {inb : ∀ a, off a + S512x256.size a ≤ S2048x512.size a} {p : S512x256.Idx → Elt F .f32} (hp : p = tVal m c s)
    {hx : (oM.access (Rect.unit (s := S2048x512) off S512x256.size inb)).Stores Finset.univ}
    {hm : (Finset.univ : Finset (Rect.unit (s := S2048x512) off S512x256.size inb).shape.Idx) = Finset.univ ∨ ∀ a, (Rect.unit (s := S2048x512) off S512x256.size inb).stride a = 1}
    {α : Type} {Q : α → sProp 𝕄} {k : PUnit → Prog (TpuEff nD τ sig (Elt F) Λ₀ .tc) α} :
    outHas m c T ⊢ iprop((outHas m c (s :: T) -∗ run c (k ⟨⟩) Q)
      -∗ run c (.op (.store oM (Rect.unit (s := S2048x512) off S512x256.size inb) p Finset.univ hx hm) k) Q) := by
  subst hoff hp
  unfold outHas
  iintro ⟨%f, %hf, H⟩ Hk
  iapply (wp_store 𝒱₀ (c : Thread nD τ) none Set.univ (m := oM) (r := oR c s) (Mk := Finset.univ) (Finset.subset_univ _)) $$ H
  iintro H
  iapply Hk
  iexists _
  isplitr; · ipureintro; exact hf.store m s hs
  iexact H

end Cert.KernelProof

end
-- ==== Proof.Walk.lean ====
/-
A slot's whole passage through the kernel, the slot a variable: its states, and the stretches of the program that take
it from one to the next.
-/
module

public import proofs.«01_k».proof.Proof.Steps
public import Idealize.ShloMosaic.Lib.Ring.Tabled

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cel → ℕ)

/-! ## The states of a slot -/

/-- The share of `w` that slot `s`'s copy reads with. -/
abbrev wShare (s : Fin 8) : PosShare TreeShare := Ring.sharesN 8 fullShare.left s

/-- Slot `s` of the `w` scratch before its copy, during it, and from its landing on. -/
def wReady (c : Dev nD) (s : Fin 8) : sProp 𝕄 :=
  iprop(atPos ER (cpCell c s) 0 ∅ 0 ∗ dutyTok ER (cpCell c s) 0 0 ∗ wAny (F := F) c s
    ∗ ((aC c s).view.loc (c : Thread nD τ) ↦[(aC c s).view.set]{wShare s} wArr m c))
def wGoing (c : Dev nD) (s : Fin 8) : sProp 𝕄 := iprop(atPos ER (cpCell c s) 0 ∅ 0 ∗ cred (tallyAt (cpCell c s) () Nw))
def wDone (c : Dev nD) (s : Fin 8) : sProp 𝕄 := iprop(semVal (cpCell c s) 0 ∗ wHas m c s)

/-- Send slot `s` before its tile is sent, until the send is waited for, and after. -/
def sReady (c : Dev nD) (s : Fin 6) : sProp 𝕄 :=
  iprop(atPos ER (sdCell c s) 0 ∅ 0 ∗ (dutyTok ER (sdCell c s) 0 0 ∗ dutyTok ER (rvCell (tgt c s) s) 0 0) ∗ sAny (F := F) c s)
def sGoing (c : Dev nD) (s : Fin 6) : sProp 𝕄 := iprop(atPos ER (sdCell c s) 0 ∅ 0 ∗ cred (tallyAt (sdCell c s) () Nt))
def sDone (c : Dev nD) (s : Fin 6) : sProp 𝕄 := iprop(semVal (sdCell c s) 0 ∗ sAny (F := F) c s)

/-- Receive slot `s` before its tile is waited for, and after. -/
def rReady (c : Dev nD) (s : Fin 6) : sProp 𝕄 := iprop(atPos ER (rvCell c s) 0 ∅ 0 ∗ cred (tallyAt (rvCell c s) () Nt))
def rDone (c : Dev nD) (s : Fin 6) : sProp 𝕄 := iprop(semVal (rvCell c s) 0 ∗ rHas m c s)

/-! ## The stretches -/

/-- Starting slot `s`'s copy. -/
theorem w_start (c : Dev nD) (s : Fin 8) {off : Fin 2 → ℕ} (hoff : off = ![0, wcol c s]) {inb : ∀ a, off a + S2048x256.size a ≤ S2048x2048.size a}
    {hu : ∀ a, (Rect.unit (s := S2048x2048) off S2048x256.size inb).stride a = 1}
    {hsrc : (aM.slice (Rect.unit (s := S2048x2048) off S2048x256.size inb) hu).view.WordExact} {hdst : (wQ s).view.WordExact}
    {hsem : DmaTarget.Typed (nD := nD) .hbm (.dma (cpS s)) (DmaTarget.here (p := .tc) (wQ s))}
    {α : Type} {Q : α → sProp 𝕄} {k : PUnit → Prog (TpuEff nD τ sig (Elt F) Λ₀ .tc) α} :
    iprop(known m K ∗ wReady m c s)
      ⊢ iprop((wGoing (F := F) c s -∗ run c (k ⟨⟩) Q)
        -∗ run c (.op (.enqueueDma (aM.slice (Rect.unit (s := S2048x2048) off S2048x256.size inb) hu) (DmaTarget.here (p := .tc) (wQ s)) (.dma (cpS s)) hsrc hdst hsem) k) Q) := by
  unfold wReady wGoing
  iintro ⟨#HK, Hat, Ht, Hw, Ha⟩ Hk
  iapply (copy_issue m K c s hoff (q := wShare s)) $$ [Ht Hw Ha]
  · isplitr; · iexact HK
    isplitl [Ht]; · iexact Ht
    isplitl [Hw] <;> iassumption
  iintro Hc
  iapply Hk
  isplitl [Hat] <;> iassumption

/-- Waiting for slot `s`'s copy and loading it. -/
theorem w_take (c : Dev nD) (s : Fin 8) {O : CellTallies nD τ sig Unit} (hO : Above 0 O) {sp : Space} {sh : Shape} {e : EltTy} {src : Memref sig .tc sp sh e}
    {hsrc : src.view.WordExact} {hdst : (wQ s).view.WordExact} {hl : wB.view.LoadsAt (wR s).toLoadRect}
    {α : Type} {Q : α → sProp 𝕄} {k : Vec F S1x2048x256 .f32 → Prog (TpuEff nD τ sig (Elt F) Λ₀ .tc) α} :
    iprop(known m K ∗ levAts L lv ∗ wGoing (F := F) c s ∗ hold (F := F) c O)
      ⊢ iprop(((hold c O ∗ wDone m c s) -∗ run c (k (wVal m c s)) Q)
        -∗ run c (.op (.waitDma2 (cpS s) src (wQ s) hsrc hdst) fun _ => .op (.load wB (wR s).toLoadRect hl) k) Q) := by
  unfold wGoing wDone
  iintro ⟨#HK, #Hlev, ⟨Hat, Hc⟩, HO⟩ Hk
  iapply (own_wait m K c (.inl s) (wpE_waitDma2_eq 𝒱₀ (c : Thread nD τ) none Set.univ) (credit_w s) hO) $$ [Hat Hc HO]
  · isplitr; · iexact HK
    isplitr; · iexact Hlev
    isplitl [Hat]; · iexact Hat
    isplitl [Hc]; · iexact Hc
    iexact HO
  rw [show payOf m c 0 (some (.inr (.inl s))) = wHas m c s from rfl]
  iintro ⟨HO, Hz, Hw⟩
  iapply (w_load m c s) $$ Hw
  iintro Hw
  iapply Hk
  isplitl [HO]; · iexact HO
  isplitl [Hz] <;> iassumption

/-- Slot `s` from its copy's wait to its tile's departure. -/
theorem s_round (c n : Dev nD) (s : Fin 6) (hn : n = tgt c s) {O : CellTallies nD τ sig Unit} (hO : Above 0 (O + oweTile c s))
    {sp : Space} {sh : Shape} {e : EltTy} {src : Memref sig .tc sp sh e}
    {hsrc : src.view.WordExact} {hdst : (wQ (slot8 s)).view.WordExact} {hl : wB.view.LoadsAt (wR (slot8 s)).toLoadRect} {hl' : sB.view.LoadsAt (sR s).toLoadRect}
    {p : Vec F S1x2048x256 .f32 → S1x512x256.Idx → Elt F .bf16} (hp : p (wVal m c (slot8 s)) = sVal m c s)
    {hx : (sB.access (sR s)).Stores Finset.univ}
    {hm : (Finset.univ : Finset (sR s).shape.Idx) = Finset.univ ∨ ∀ a, (sR s).stride a = 1}
    {hsc : (rQ s : Memref sig (Dev.tc n : Thread nD τ).2.kind .vmem S512x256 .bf16).view.ref.isScScratch = false}
    {hs : (sQ s).view.WordExact} {hd : (rQ s).view.WordExact}
    {hsem : DmaTarget.Typed .vmem (.dma (rvS s)) (.remote (Dev.tc n : Thread nD τ) (rQ s) (.dma (sdS s)) hsc)}
    {α : Type} {Q : α → sProp 𝕄} {k : PUnit → Prog (TpuEff nD τ sig (Elt F) Λ₀ .tc) α} :
    iprop(known m K ∗ levAts L lv ∗ wGoing (F := F) c (slot8 s) ∗ sReady (F := F) c s ∗ rAny (F := F) (tgt c s) s ∗ hold (F := F) c (O + oweTile c s))
      ⊢ iprop(((hold c O ∗ wDone m c (slot8 s) ∗ sGoing (F := F) c s) -∗ run c (k ⟨⟩) Q)
        -∗ run c (.op (.waitDma2 (cpS (slot8 s)) src (wQ (slot8 s)) hsrc hdst) fun _ => .op (.load wB (wR (slot8 s)).toLoadRect hl) fun w =>
          .op (.load sB (sR s).toLoadRect hl') fun _ => .op (.store sB (sR s) (p w) Finset.univ hx hm) fun _ =>
          .op (.enqueueDma (sQ s) (.remote (Dev.tc n : Thread nD τ) (rQ s) (.dma (sdS s)) hsc) (.dma (rvS s)) hs hd hsem) k) Q) := by
  unfold sReady sGoing
  iintro ⟨#HK, #Hlev, Hw, ⟨Hat, Ht, Hs⟩, Hr, HO⟩ Hk
  iapply (w_take m K c (slot8 s) hO) $$ [Hw HO]
  · isplitr; · iexact HK
    isplitr; · iexact Hlev
    isplitl [Hw] <;> iassumption
  iintro ⟨HO, Hw⟩
  iapply (s_load c s) $$ Hs
  iintro %v Hs
  iapply (s_store m c s hp) $$ Hs
  iintro Hs
  iapply (send_issue m K c n s hn) $$ [Ht Hs Hr HO]
  · isplitr; · iexact HK
    isplitl [Ht]; · iexact Ht
    isplitl [Hs]; · iexact Hs
    isplitl [Hr] <;> iassumption
  iintro ⟨Hc, HO⟩
  iapply Hk
  isplitl [HO]; · iexact HO
  isplitl [Hw]; · iexact Hw
  isplitl [Hat] <;> iassumption

/-- Loading from the result, to no use, and storing slot `s`'s tile. -/
theorem o_put (c : Dev nD) (s : Fin 8) {T : List (Fin 8)} (hs : s ∉ T) {off : Fin 2 → ℕ} (hoff : off = ![orow c s, ocol s])
    {inb : ∀ a, off a + S512x256.size a ≤ S2048x512.size a} {p : S512x256.Idx → Elt F .f32} (hp : p = tVal m c s)
    {hl : oM.view.LoadsAt (Rect.unit (s := S2048x512) off S512x256.size inb).toLoadRect}
    {hx : (oM.access (Rect.unit (s := S2048x512) off S512x256.size inb)).Stores Finset.univ}
    {hm : (Finset.univ : Finset (Rect.unit (s := S2048x512) off S512x256.size inb).shape.Idx) = Finset.univ ∨ ∀ a, (Rect.unit (s := S2048x512) off S512x256.size inb).stride a = 1}
    {α : Type} {Q : α → sProp 𝕄} {k : PUnit → Prog (TpuEff nD τ sig (Elt F) Λ₀ .tc) α} :
    outHas m c T ⊢ iprop((outHas m c (s :: T) -∗ run c (k ⟨⟩) Q)
      -∗ run c (.op (.load oM (Rect.unit (s := S2048x512) off S512x256.size inb).toLoadRect hl) fun _ =>
        .op (.store oM (Rect.unit (s := S2048x512) off S512x256.size inb) p Finset.univ hx hm) k) Q) := by
  iintro H Hk
  iapply (o_load m c) $$ H
  iintro %v H
  iapply (o_store m c s hs hoff hp) $$ H
  iexact Hk

/-- A slot the device computes for itself, from its copy's wait to its tile in the result. -/
theorem w_round (c : Dev nD) (s : Fin 8) {T : List (Fin 8)} (hs : s ∉ T) {off : Fin 2 → ℕ} (hoff : off = ![orow c s, ocol s])
    {inb : ∀ a, off a + S512x256.size a ≤ S2048x512.size a} {p : Vec F S1x2048x256 .f32 → S512x256.Idx → Elt F .f32} (hp : p (wVal m c s) = tVal m c s)
    {sp : Space} {sh : Shape} {e : EltTy} {src : Memref sig .tc sp sh e}
    {hsrc : src.view.WordExact} {hdst : (wQ s).view.WordExact} {hw : wB.view.LoadsAt (wR s).toLoadRect}
    {hl : oM.view.LoadsAt (Rect.unit (s := S2048x512) off S512x256.size inb).toLoadRect}
    {hx : (oM.access (Rect.unit (s := S2048x512) off S512x256.size inb)).Stores Finset.univ}
    {hm : (Finset.univ : Finset (Rect.unit (s := S2048x512) off S512x256.size inb).shape.Idx) = Finset.univ ∨ ∀ a, (Rect.unit (s := S2048x512) off S512x256.size inb).stride a = 1}
    {α : Type} {Q : α → sProp 𝕄} {k : PUnit → Prog (TpuEff nD τ sig (Elt F) Λ₀ .tc) α} :
    iprop(known m K ∗ levAts L lv ∗ wGoing (F := F) c s ∗ hold (F := F) c 0 ∗ outHas m c T)
      ⊢ iprop(((hold c 0 ∗ wDone m c s ∗ outHas m c (s :: T)) -∗ run c (k ⟨⟩) Q)
        -∗ run c (.op (.waitDma2 (cpS s) src (wQ s) hsrc hdst) fun _ => .op (.load wB (wR s).toLoadRect hw) fun w =>
          .op (.load oM (Rect.unit (s := S2048x512) off S512x256.size inb).toLoadRect hl) fun _ =>
          .op (.store oM (Rect.unit (s := S2048x512) off S512x256.size inb) (p w) Finset.univ hx hm) k) Q) := by
  iintro ⟨#HK, #Hlev, Hw, HO, Hout⟩ Hk
  iapply (w_take m K c s (Above.zero 0)) $$ [Hw HO]
  · isplitr; · iexact HK
    isplitr; · iexact Hlev
    isplitl [Hw] <;> iassumption
  iintro ⟨HO, Hw⟩
  iapply (o_put m c s hs hoff hp) $$ Hout
  iintro Hout
  iapply Hk
  isplitl [HO]; · iexact HO
  isplitl [Hw] <;> iassumption

/-- A receive slot, from its wait to its tile in the result. -/
theorem r_round (c : Dev nD) (s : Fin 6) {T : List (Fin 8)} (hs : slot8 s ∉ T) {off : Fin 2 → ℕ} (hoff : off = ![orow c (slot8 s), ocol (slot8 s)])
    {inb : ∀ a, off a + S512x256.size a ≤ S2048x512.size a} {p : Vec F S1x512x256 .bf16 → S512x256.Idx → Elt F .f32}
    (hp : p (sVal m (src c s) s) = tVal m c (slot8 s))
    {sp : Space} {sh : Shape} {e : EltTy} {from' : Memref sig .tc sp sh e}
    {hsrc : from'.view.WordExact} {hdst : (rQ s).view.WordExact} {hr : rB.view.LoadsAt (sR s).toLoadRect}
    {hl : oM.view.LoadsAt (Rect.unit (s := S2048x512) off S512x256.size inb).toLoadRect}
    {hx : (oM.access (Rect.unit (s := S2048x512) off S512x256.size inb)).Stores Finset.univ}
    {hm : (Finset.univ : Finset (Rect.unit (s := S2048x512) off S512x256.size inb).shape.Idx) = Finset.univ ∨ ∀ a, (Rect.unit (s := S2048x512) off S512x256.size inb).stride a = 1}
    {α : Type} {Q : α → sProp 𝕄} {k : PUnit → Prog (TpuEff nD τ sig (Elt F) Λ₀ .tc) α} :
    iprop(known m K ∗ levAts L lv ∗ rReady (F := F) c s ∗ hold (F := F) c 0 ∗ outHas m c T)
      ⊢ iprop(((hold c 0 ∗ rDone m c s ∗ outHas m c (slot8 s :: T)) -∗ run c (k ⟨⟩) Q)
        -∗ run c (.op (.waitDma2 (rvS s) from' (rQ s) hsrc hdst) fun _ => .op (.load rB (sR s).toLoadRect hr) fun v =>
          .op (.load oM (Rect.unit (s := S2048x512) off S512x256.size inb).toLoadRect hl) fun _ =>
          .op (.store oM (Rect.unit (s := S2048x512) off S512x256.size inb) (p v) Finset.univ hx hm) k) Q) := by
  unfold rReady rDone
  iintro ⟨#HK, #Hlev, ⟨Hat, Hc⟩, HO, Hout⟩ Hk
  iapply (own_wait m K c (.inr (.inr s)) (wpE_waitDma2_eq 𝒱₀ (c : Thread nD τ) none Set.univ) (credit_r s) (Above.zero 2)) $$ [Hat Hc HO]
  · isplitr; · iexact HK
    isplitr; · iexact Hlev
    isplitl [Hat]; · iexact Hat
    isplitl [Hc]; · iexact Hc
    iexact HO
  rw [show payOf m c 0 (some (.inr (.inr (.inr s)))) = rHas m c s from rfl]
  iintro ⟨HO, Hz, Hr⟩
  iapply (r_load m c s) $$ Hr
  iintro Hr
  iapply (o_put m c (slot8 s) hs hoff hp) $$ Hout
  iintro Hout
  iapply Hk
  isplitl [HO]; · iexact HO
  isplitl [Hz Hr]; · isplitl [Hz] <;> iassumption
  iexact Hout

/-- The last wait for a send. -/
theorem s_finish (c : Dev nD) (s : Fin 6) {sp : Space} {sh : Shape} {e : EltTy} {from' : Memref sig .tc sp sh e}
    {hsrc : from'.view.WordExact} {hdst : (sQ s).view.WordExact}
    {α : Type} {Q : α → sProp 𝕄} {k : PUnit → Prog (TpuEff nD τ sig (Elt F) Λ₀ .tc) α} :
    iprop(known m K ∗ levAts L lv ∗ sGoing (F := F) c s ∗ hold (F := F) c 0)
      ⊢ iprop(((hold c 0 ∗ sDone (F := F) c s) -∗ run c (k ⟨⟩) Q)
        -∗ run c (.op (.waitDma2 (sdS s) from' (sQ s) hsrc hdst) k) Q) := by
  unfold sGoing sDone
  iintro ⟨#HK, #Hlev, ⟨Hat, Hc⟩, HO⟩ Hk
  iapply (own_wait m K c (.inr (.inl s)) (wpE_waitDma2_eq 𝒱₀ (c : Thread nD τ) none Set.univ) (credit_s s) (Above.zero 0)) $$ [Hat Hc HO]
  · isplitr; · iexact HK
    isplitr; · iexact Hlev
    isplitl [Hat]; · iexact Hat
    isplitl [Hc]; · iexact Hc
    iexact HO
  rw [show payOf m c 0 (some (.inr (.inr (.inl s)))) = sAny c s from rfl]
  iintro ⟨HO, Hz, Hs⟩
  iapply Hk
  isplitl [HO]; · iexact HO
  isplitl [Hz] <;> iassumption

end Cert.KernelProof

end
-- ==== Proof.Body.lean ====
/-
The kernel on one device, from what it starts with to what it ends with.
-/
module

public import proofs.«01_k».proof.Proof.Walk

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cel → ℕ)

/-- What device `c` starts its body with, beside what it owes and the two staged buffers. -/
def starts (c : Dev nD) : sProp 𝕄 :=
  iprop((atPos ER (barCell c) 0 ∅ 0 ∗ cred (tallyAt (barCell c) () 3))
    ∗ (bigSep Finset.univ fun j : Fin 3 => dutyTok ER (barCell (ahead j c)) 0 j.rev)
    ∗ (bigSep Finset.univ fun s : Fin 8 => wReady m c s)
    ∗ (bigSep Finset.univ fun s : Fin 6 => sReady (F := F) c s)
    ∗ (bigSep Finset.univ fun s : Fin 6 => rReady (F := F) c s)
    ∗ bigSep Finset.univ fun s : Fin 6 => rAny (F := F) c s)

/-- What it ends with: every semaphore at zero, and every slot back. -/
def ends (c : Dev nD) : sProp 𝕄 :=
  iprop(semVal (barCell c) 0 ∗ (bigSep Finset.univ fun s : Fin 8 => wDone m c s)
    ∗ (bigSep Finset.univ fun s : Fin 6 => sDone (F := F) c s) ∗ bigSep Finset.univ fun s : Fin 6 => rDone m c s)

/-- The staged block of `x`. -/
def xHas (c : Dev nD) : sProp 𝕄 := (((c : Thread nD τ).loc cc0_stg0_0) ↦{fullShare} xBlk m c)

omit [FloatOps F] in
theorem hz2 : (![0, 0] : Fin 2 → Nat) = fun _ => 0 := funext fun a => by fin_cases a <;> rfl

/-- Loading the staged block whole. -/
theorem x_load (c : Dev nD) {inb : ∀ a, (![0, 0] : Fin 2 → ℕ) a + S512x2048.size a ≤ S512x2048.size a}
    {hl : xM.view.LoadsAt (Rect.unit (s := S512x2048) ![0, 0] S512x2048.size inb).toLoadRect}
    {α : Type} {Q : α → sProp 𝕄} {k : Vec F S512x2048 .f32 → Prog (TpuEff nD τ sig (Elt F) Λ₀ .tc) α} :
    xHas m c ⊢ iprop((xHas m c -∗ run c (k (xBlk m c)) Q)
      -∗ run c (.op (.load xM (Rect.unit (s := S512x2048) ![0, 0] S512x2048.size inb).toLoadRect hl) k) Q) := by
  unfold xHas
  iintro H Hk
  iapply (wp_load 𝒱₀ (c : Thread nD τ) none Set.univ (m := xM) (Finset.subset_univ _)) $$ H
  iintro H
  rw [show xM.view.readAt (Elt F) (Rect.unit (s := S512x2048) ![0, 0] S512x2048.size inb).toLoadRect (xBlk m c) = xBlk m c from
    Memref.readAt_unit_zero (Elt F) cc0_stg0_0 hz2 _ _]
  iapply Hk
  iexact H

omit [FloatOps F] in
theorem over3 (Φ : Fin 3 → sProp 𝕄) : bigSep Finset.univ Φ = iprop(Φ 0 ∗ Φ 1 ∗ Φ 2) := by
  rw [bigSep_univ_eq_bigSepL [0, 1, 2] (by decide) (by decide)]; rfl
omit [FloatOps F] in
theorem over6 (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl
omit [FloatOps F] in
theorem over8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

theorem off2_at (c : Dev nD) : k0_off2 c = ![orow c 6, ocol 6] := by revert c; decide +kernel
theorem off3_at (c : Dev nD) : k0_off3 c = ![orow c 7, ocol 7] := by revert c; decide +kernel
theorem off4_at (c : Dev nD) (j : Fin 3) : k0_off4 c (BitVec.ofNat 32 (1 + j.val)) = ![orow c (slot8 (lo j)), ocol (slot8 (lo j))] := by
  revert c j; decide +kernel
theorem off5_at (c : Dev nD) (j : Fin 3) : k0_off5 c (BitVec.ofNat 32 (1 + j.val)) = ![orow c (slot8 (hi j)), ocol (slot8 (hi j))] := by
  revert c j; decide +kernel

set_option maxHeartbeats 4000000 in
/-- The kernel on device `c`: the result's buffer ends holding the result, every semaphore at zero. -/
theorem kernel_runs (c : Dev nD) (Q : PUnit → sProp 𝕄) :
    iprop(known m K ∗ levAts L lv ∗ starts m c ∗ hold (F := F) c (O₀ c) ∗ xHas m c ∗ outHas m c []
        ∗ ((ends m c ∗ hold (F := F) c 0 ∗ xHas m c ∗ outHas m c [5, 4, 3, 2, 1, 0, 7, 6]) -∗ Q ⟨⟩))
      ⊢ wp frame (wpE (defs₀ (F := F)) 𝒱₀ c none) Set.univ
          (cc0_body xM (Memref.isWhole_whole _) aM (Memref.isWhole_whole _) oM (Memref.isWhole_whole _)
            wB (Memref.isWhole_whole _) sB (Memref.isWhole_whole _) rB (Memref.isWhole_whole _) cc0_scratch3 cc0_scratch4 cc0_scratch5) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel
  simp only [semSignalWord, semWaitWord, Prog.lift, Prog.bind_op, Prog.bind_ret, Prog.pure_eq_ret, wp_deviceId]
  unfold starts
  rw [over3, over8, over6, over6, over6]
  iintro ⟨#HK, #Hlev, ⟨⟨HatB, HcB⟩, ⟨Ht0, Ht1, Ht2⟩, ⟨Hw0, Hw1, Hw2, Hw3, Hw4, Hw5, Hw6, Hw7⟩, ⟨Hs0, Hs1, Hs2, Hs3, Hs4, Hs5⟩,
    ⟨Hv0, Hv1, Hv2, Hv3, Hv4, Hv5⟩, ⟨Hr0, Hr1, Hr2, Hr3, Hr4, Hr5⟩⟩, HO, Hx, Hout, Hk⟩
  iapply (w_start m K c 0 (off1_eq c 0)) $$ [Hw0]
  · isplitr; · iexact HK
    iexact Hw0
  iintro Hw0
  iapply (w_start m K c 1 (off1_eq c 1)) $$ [Hw1]
  · isplitr; · iexact HK
    iexact Hw1
  iintro Hw1
  iapply (w_start m K c 2 (off1_eq c 2)) $$ [Hw2]
  · isplitr; · iexact HK
    iexact Hw2
  iintro Hw2
  iapply (w_start m K c 3 (off1_eq c 3)) $$ [Hw3]
  · isplitr; · iexact HK
    iexact Hw3
  iintro Hw3
  iapply (w_start m K c 4 (off1_eq c 4)) $$ [Hw4]
  · isplitr; · iexact HK
    iexact Hw4
  iintro Hw4
  iapply (w_start m K c 5 (off1_eq c 5)) $$ [Hw5]
  · isplitr; · iexact HK
    iexact Hw5
  iintro Hw5
  iapply (w_start m K c 6 (off1_eq c 6)) $$ [Hw6]
  · isplitr; · iexact HK
    iexact Hw6
  iintro Hw6
  iapply (w_start m K c 7 (off1_eq c 7)) $$ [Hw7]
  · isplitr; · iexact HK
    iexact Hw7
  iintro Hw7
  iapply (bar_signal m K c _ 0 (dev1_eq c) rfl (O := oweBars c 2)) $$ [Ht0 Hr4 Hr5 HO]
  · isplitr; · iexact HK
    isplitl [Ht0]; · iexact Ht0
    isplitl [Hr4 Hr5]
    · isplitl [Hr4]; · iexact Hr4
      iexact Hr5
    iexact HO
  iintro HO
  iapply (bar_signal m K c _ 1 (dev2_eq c) rfl (O := oweBars c 1)) $$ [Ht1 Hr2 Hr3 HO]
  · isplitr; · iexact HK
    isplitl [Ht1]; · iexact Ht1
    isplitl [Hr2 Hr3]
    · isplitl [Hr2]; · iexact Hr2
      iexact Hr3
    iexact HO
  iintro HO
  iapply (bar_signal m K c _ 2 (dev3_eq c) rfl (O := oweBars c 0)) $$ [Ht2 Hr0 Hr1 HO]
  · isplitr; · iexact HK
    isplitl [Ht2]; · iexact Ht2
    isplitl [Hr0 Hr1]
    · isplitl [Hr0]; · iexact Hr0
      iexact Hr1
    iexact HO
  iintro HO
  iapply (bar_wait m K c rfl (O := oweTiles c 6) (above_tiles c 6)) $$ [HatB HcB HO]
  · isplitr; · iexact HK
    isplitr; · iexact Hlev
    isplitl [HatB]; · iexact HatB
    isplitl [HcB]; · iexact HcB
    iexact HO
  unfold barPay
  iintro ⟨HO, HzB, ⟨Hr0, Hr1⟩, ⟨Hr2, Hr3⟩, ⟨Hr4, Hr5⟩⟩
  iapply (x_load m c) $$ Hx
  iintro Hx
  iapply (s_round m K c _ 0 (dev4_eq c) (O := oweTiles c 5) ((above_tiles c 6).mono (Nat.zero_le 1)) rfl) $$ [Hw0 Hs0 Hr0 HO]
  · isplitr; · iexact HK
    isplitr; · iexact Hlev
    isplitl [Hw0]; · iexact Hw0
    isplitl [Hs0]; · iexact Hs0
    isplitl [Hr0]; · iexact Hr0
    iexact HO
  iintro ⟨HO, Hw0, Hs0⟩
  iapply (s_round m K c _ 1 (dev5_eq c) (O := oweTiles c 4) ((above_tiles c 5).mono (Nat.zero_le 1)) rfl) $$ [Hw1 Hs1 Hr1 HO]
  · isplitr; · iexact HK
    isplitr; · iexact Hlev
    isplitl [Hw1]; · iexact Hw1
    isplitl [Hs1]; · iexact Hs1
    isplitl [Hr1]; · iexact Hr1
    iexact HO
  iintro ⟨HO, Hw1, Hs1⟩
  iapply (s_round m K c _ 2 (dev6_eq c) (O := oweTiles c 3) ((above_tiles c 4).mono (Nat.zero_le 1)) rfl) $$ [Hw2 Hs2 Hr2 HO]
  · isplitr; · iexact HK
    isplitr; · iexact Hlev
    isplitl [Hw2]; · iexact Hw2
    isplitl [Hs2]; · iexact Hs2
    isplitl [Hr2]; · iexact Hr2
    iexact HO
  iintro ⟨HO, Hw2, Hs2⟩
  iapply (s_round m K c _ 3 (dev7_eq c) (O := oweTiles c 2) ((above_tiles c 3).mono (Nat.zero_le 1)) rfl) $$ [Hw3 Hs3 Hr3 HO]
  · isplitr; · iexact HK
    isplitr; · iexact Hlev
    isplitl [Hw3]; · iexact Hw3
    isplitl [Hs3]; · iexact Hs3
    isplitl [Hr3]; · iexact Hr3
    iexact HO
  iintro ⟨HO, Hw3, Hs3⟩
  iapply (s_round m K c _ 4 (dev8_eq c) (O := oweTiles c 1) ((above_tiles c 2).mono (Nat.zero_le 1)) rfl) $$ [Hw4 Hs4 Hr4 HO]
  · isplitr; · iexact HK
    isplitr; · iexact Hlev
    isplitl [Hw4]; · iexact Hw4
    isplitl [Hs4]; · iexact Hs4
    isplitl [Hr4]; · iexact Hr4
    iexact HO
  iintro ⟨HO, Hw4, Hs4⟩
  iapply (s_round m K c _ 5 (dev9_eq c) (O := oweTiles c 0) ((above_tiles c 1).mono (Nat.zero_le 1)) rfl) $$ [Hw5 Hs5 Hr5 HO]
  · isplitr; · iexact HK
    isplitr; · iexact Hlev
    isplitl [Hw5]; · iexact Hw5
    isplitl [Hs5]; · iexact Hs5
    isplitl [Hr5]; · iexact Hr5
    iexact HO
  iintro ⟨HO, Hw5, Hs5⟩
  iapply (w_round m K c 6 (T := []) (by decide) (off2_at c) (tVal_six m c).symm) $$ [Hw6 HO Hout]
  · isplitr; · iexact HK
    isplitr; · iexact Hlev
    isplitl [Hw6]; · iexact Hw6
    isplitl [HO]; · iexact HO
    iexact Hout
  iintro ⟨HO, Hw6, Hout⟩
  iapply (w_round m K c 7 (T := [6]) (by decide) (off3_at c) (tVal_seven m c).symm) $$ [Hw7 HO Hout]
  · isplitr; · iexact HK
    isplitr; · iexact Hlev
    isplitl [Hw7]; · iexact Hw7
    isplitl [HO]; · iexact HO
    iexact Hout
  iintro ⟨HO, Hw7, Hout⟩
  iapply (r_round m K c 0 (T := [7, 6]) (by decide) (off4_at c 0) (tVal_sent m c 0).symm) $$ [Hv0 HO Hout]
  · isplitr; · iexact HK
    isplitr; · iexact Hlev
    isplitl [Hv0]; · iexact Hv0
    isplitl [HO]; · iexact HO
    iexact Hout
  iintro ⟨HO, Hv0, Hout⟩
  iapply (r_round m K c 1 (T := [0, 7, 6]) (by decide) (off5_at c 0) (tVal_sent m c 1).symm) $$ [Hv1 HO Hout]
  · isplitr; · iexact HK
    isplitr; · iexact Hlev
    isplitl [Hv1]; · iexact Hv1
    isplitl [HO]; · iexact HO
    iexact Hout
  iintro ⟨HO, Hv1, Hout⟩
  iapply (r_round m K c 2 (T := [1, 0, 7, 6]) (by decide) (off4_at c 1) (tVal_sent m c 2).symm) $$ [Hv2 HO Hout]
  · isplitr; · iexact HK
    isplitr; · iexact Hlev
    isplitl [Hv2]; · iexact Hv2
    isplitl [HO]; · iexact HO
    iexact Hout
  iintro ⟨HO, Hv2, Hout⟩
  iapply (r_round m K c 3 (T := [2, 1, 0, 7, 6]) (by decide) (off5_at c 1) (tVal_sent m c 3).symm) $$ [Hv3 HO Hout]
  · isplitr; · iexact HK
    isplitr; · iexact Hlev
    isplitl [Hv3]; · iexact Hv3
    isplitl [HO]; · iexact HO
    iexact Hout
  iintro ⟨HO, Hv3, Hout⟩
  iapply (r_round m K c 4 (T := [3, 2, 1, 0, 7, 6]) (by decide) (off4_at c 2) (tVal_sent m c 4).symm) $$ [Hv4 HO Hout]
  · isplitr; · iexact HK
    isplitr; · iexact Hlev
    isplitl [Hv4]; · iexact Hv4
    isplitl [HO]; · iexact HO
    iexact Hout
  iintro ⟨HO, Hv4, Hout⟩
  iapply (r_round m K c 5 (T := [4, 3, 2, 1, 0, 7, 6]) (by decide) (off5_at c 2) (tVal_sent m c 5).symm) $$ [Hv5 HO Hout]
  · isplitr; · iexact HK
    isplitr; · iexact Hlev
    isplitl [Hv5]; · iexact Hv5
    isplitl [HO]; · iexact HO
    iexact Hout
  iintro ⟨HO, Hv5, Hout⟩
  iapply (s_finish m K c 0) $$ [Hs0 HO]
  · isplitr; · iexact HK
    isplitr; · iexact Hlev
    isplitl [Hs0]; · iexact Hs0
    iexact HO
  iintro ⟨HO, Hs0⟩
  iapply (s_finish m K c 1) $$ [Hs1 HO]
  · isplitr; · iexact HK
    isplitr; · iexact Hlev
    isplitl [Hs1]; · iexact Hs1
    iexact HO
  iintro ⟨HO, Hs1⟩
  iapply (s_finish m K c 2) $$ [Hs2 HO]
  · isplitr; · iexact HK
    isplitr; · iexact Hlev
    isplitl [Hs2]; · iexact Hs2
    iexact HO
  iintro ⟨HO, Hs2⟩
  iapply (s_finish m K c 3) $$ [Hs3 HO]
  · isplitr; · iexact HK
    isplitr; · iexact Hlev
    isplitl [Hs3]; · iexact Hs3
    iexact HO
  iintro ⟨HO, Hs3⟩
  iapply (s_finish m K c 4) $$ [Hs4 HO]
  · isplitr; · iexact HK
    isplitr; · iexact Hlev
    isplitl [Hs4]; · iexact Hs4
    iexact HO
  iintro ⟨HO, Hs4⟩
  iapply (s_finish m K c 5) $$ [Hs5 HO]
  · isplitr; · iexact HK
    isplitr; · iexact Hlev
    isplitl [Hs5]; · iexact Hs5
    iexact HO
  iintro ⟨HO, Hs5⟩
  unfold run; rw [wp_ret]; imodintro
  iapply Hk
  isplitl [HzB Hw0 Hw1 Hw2 Hw3 Hw4 Hw5 Hw6 Hw7 Hs0 Hs1 Hs2 Hs3 Hs4 Hs5 Hv0 Hv1 Hv2 Hv3 Hv4 Hv5]
  · unfold ends
    rw [over8, over6, over6]
    isplitl [HzB]; · iexact HzB
    isplitl [Hw0 Hw1 Hw2 Hw3 Hw4 Hw5 Hw6 Hw7]
    · isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [Hv0]; · iexact Hv0
    isplitl [Hv1]; · iexact Hv1
    isplitl [Hv2]; · iexact Hv2
    isplitl [Hv3]; · iexact Hv3
    isplitl [Hv4]; · iexact Hv4
    iexact Hv5
  isplitl [HO]; · iexact HO
  isplitl [Hx]; · iexact Hx
  iexact Hout

end Cert.KernelProof

end
-- ==== Proof.Ghost.lean ====
/-
The launch's ghost state: the cells are opened, and each device is dealt its positions, the tokens of the duties it pays,
and its launch credits.
-/
module

public import proofs.«01_k».proof.Proof.Body

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The launch's element -/

/-- The kernel's cells, on every device. -/
def kCells : Finset (GSem nD τ sig) := Finset.univ.map ⟨cell, cell_inj⟩

/-- A device's duties: three of its barrier cell, one of each cell of its own. -/
abbrev Duty : Type := Fin 3 ⊕ Own

def tokOf (x : Dev nD × Duty) : GSem nD τ sig × ℕ × Fin 3 :=
  match x.2 with
  | .inl j => (barCell x.1, 0, j)
  | .inr o => (cell (x.1, .inr o), 0, 0)

omit [FloatOps F] in
theorem tokOf_inj : Function.Injective tokOf := by
  rintro ⟨c, a⟩ ⟨c', a'⟩ h
  have hg : ∀ b b' : Duty, tokOf (c, b) = tokOf (c', b') → c = c' ∧ b = b' := by
    rintro (j | o) (j' | o') e
    · have hc := cell_inj (a₁ := (c, .inl ())) (a₂ := (c', .inl ())) (congrArg Prod.fst e)
      exact ⟨congrArg Prod.fst hc, congrArg Sum.inl (congrArg (fun x : GSem nD τ sig × ℕ × Fin 3 => x.2.2) e)⟩
    · have hc := cell_inj (a₁ := (c, .inl ())) (a₂ := (c', .inr o')) (congrArg Prod.fst e)
      exact absurd (congrArg Prod.snd hc) (fun h => by cases h)
    · have hc := cell_inj (a₁ := (c, .inr o)) (a₂ := (c', .inl ())) (congrArg Prod.fst e)
      exact absurd (congrArg Prod.snd hc) (fun h => by cases h)
    · have hc := cell_inj (a₁ := (c, .inr o)) (a₂ := (c', .inr o')) (congrArg Prod.fst e)
      exact ⟨congrArg Prod.fst hc, congrArg Sum.inr (Sum.inr.inj (congrArg Prod.snd hc))⟩
  exact Prod.ext (hg a a' h).1 (hg a a' h).2

def kToks : Finset (GSem nD τ sig × ℕ × Fin 3) := Finset.univ.map ⟨tokOf, tokOf_inj⟩

def u₀ : UU := (initOf (Pipeline.cells cfgs cellOf_inj) (Pipeline.launchToks cfgs cellOf_inj), initOf kCells kToks)

/-- The tokens of the duties on device `c`'s cells. -/
def toks (c : Dev nD) : sProp 𝕄 :=
  iprop((bigSep Finset.univ fun j : Fin 3 => dutyTok ER (barCell c) 0 j)
    ∗ (bigSep Finset.univ fun s : Fin 8 => dutyTok ER (cpCell c s) 0 0)
    ∗ (bigSep Finset.univ fun s : Fin 6 => dutyTok ER (sdCell c s) 0 0)
    ∗ bigSep Finset.univ fun s : Fin 6 => dutyTok ER (rvCell c s) 0 0)

/-- The tokens of the duties that device `c` pays. -/
def payToks (c : Dev nD) : sProp 𝕄 :=
  iprop((bigSep Finset.univ fun j : Fin 3 => dutyTok ER (barCell (ahead j c)) 0 j.rev)
    ∗ (bigSep Finset.univ fun s : Fin 8 => dutyTok ER (cpCell c s) 0 0)
    ∗ (bigSep Finset.univ fun s : Fin 6 => dutyTok ER (sdCell c s) 0 0)
    ∗ bigSep Finset.univ fun s : Fin 6 => dutyTok ER (rvCell (tgt c s) s) 0 0)

/-- Device `c`'s positions, at its cells' first round. -/
def seats (c : Dev nD) : sProp 𝕄 := bigSep Finset.univ fun k : Cel => atPos ER (cell (c, k)) 0 ∅ 0

/-- What the launch element deals device `c`, -/
def G (c : Dev nD) : sProp 𝕄 :=
  iprop((bigSep Finset.univ fun k : Cel => roundState ER (Rd m) (cell (c, k)) 0)
    ∗ (seats (F := F) c ∗ bigSep Finset.univ fun k : Cel => reached ER (cell (c, k)) 0) ∗ toks (F := F) c)
/-- and what opening the cells makes of it. -/
def G' (c : Dev nD) : sProp 𝕄 := iprop(∃ K, known m K ∗ seats (F := F) c ∗ payToks (F := F) c)

theorem fund_cells : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : Cel => Φ (cell (c, k)) := by
    unfold kCells; rw [bigSep_map, bigSep_univ_prod]; rfl
  have hT : bigSep kToks (fun x => (dutyTok ER x.1 x.2.1 x.2.2 : sProp 𝕄)) = bigSep Finset.univ fun c : Dev nD => toks (F := F) c := by
    unfold kToks; rw [bigSep_map, bigSep_univ_prod]
    refine bigSep_congr fun c _ => ?_
    rw [bigSep_univ_sum, bigSep_univ_sum, bigSep_univ_sum]; rfl
  iintro HX
  imod (Rounds.fund ER (Rd m) kCells kToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G seats; simp only [bigSep_sep']
  isplitl [Hst]; · iexact Hst
  isplitl [Hat Hr]
  · isplitl [Hat] <;> iassumption
  iexact Htok

/-! ## Opening the cells -/

omit [FloatOps F] in
/-- The launch's one unscoped semaphore is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- It and the launch's own semaphores are the kernel's cells. -/
theorem sems_eq (c : Dev nD) :
    iprop(unscopedSems0 c ∗ Pipeline.ownSems0 (Ix := Unit) (Name := ℕ) (U := UU) (Lvl := ℕ) (Val := Elt F) (τ := τ) ownSem c)
      = (bigSep Finset.univ fun k : Cel => semVal (cell (c, k)) 0 : sProp 𝕄) := by
  have e := bigSep_univ_sum (fun k : Cel => (semVal (cell (c, k)) 0 : sProp 𝕄))
  rw [unscopedSems0_eq]
  refine Eq.trans ?_ e.symm
  rw [show (bigSep Finset.univ fun a : Unit => (semVal (cell (c, Sum.inl a)) 0 : sProp 𝕄)) = semVal (barCell c) 0 from bigSep_singleton]
  rfl

theorem open_cells (c : Dev nD) :
    iprop(Pipeline.ownSems0 (Ix := Unit) (Name := ℕ) (U := UU) (Lvl := ℕ) (Val := Elt F) (τ := τ) ownSem c ∗ unscopedSems0 c ∗ G m c)
      ⊢ |={Set.univ}=> iprop((bigSep Finset.univ fun k : Cel => iprop(∃ κ : ℕ, cellInv ER (Rd m) κ (cell (c, k))))
          ∗ (seats (F := F) c ∗ bigSep Finset.univ fun k : Cel => reached ER (cell (c, k)) 0) ∗ toks (F := F) c) := by
  have alloc : iprop((bigSep Finset.univ fun k : Cel => semVal (cell (c, k)) 0) ∗ bigSep Finset.univ fun k : Cel => roundState ER (Rd m) (cell (c, k)) 0)
      ⊢ (|={Set.univ}=> bigSep Finset.univ fun k => iprop(∃ κ : ℕ, cellInv ER (Rd m) κ (cell (c, k))) : sProp 𝕄) := by
    rw [← bigSep_sep']
    exact (bigSep_mono fun k _ => (Rounds.body_intro ER (Rd m) (cell (c, k))).trans inv_alloc).trans (bigSep_fupd _ _)
  unfold G
  iintro ⟨Hos, Hus, Hst, Hat, Htok⟩
  ihave Hv := (Entails.of_eq (sems_eq (F := F) c)) $$ [Hos Hus]
  · isplitl [Hus] <;> iassumption
  imod alloc $$ [Hv Hst] with Hinv
  · isplitl [Hv] <;> iassumption
  imodintro
  isplitl [Hinv]; · iexact Hinv
  isplitl [Hat]; · iexact Hat
  iexact Htok

/-! ## Dealing the tokens -/

/-- A barrier duty and who pays it. -/
def barDeal : Dev nD × Fin 3 ≃ Dev nD × Fin 3 where
  toFun x := (ahead x.2 x.1, x.2.rev)
  invFun x := (ahead x.2 x.1, x.2.rev)
  left_inv := by decide
  right_inv := by decide
/-- A tile's landing and who sends it. -/
def tileDeal : Dev nD × Fin 6 ≃ Dev nD × Fin 6 where
  toFun x := (tgt x.1 x.2, x.2)
  invFun x := (src x.1 x.2, x.2)
  left_inv x := Prod.ext (behind_ahead _ _) rfl
  right_inv x := Prod.ext (ahead_behind _ _) rfl

omit [FloatOps F] in
/-- Every token goes to the device that pays its duty. -/
theorem toks_dealt : (bigSep Finset.univ fun c : Dev nD => (toks (F := F) c : sProp 𝕄)) = bigSep Finset.univ fun c : Dev nD => payToks (F := F) c := by
  unfold toks payToks
  rw [bigSep_sep', bigSep_sep', bigSep_sep', bigSep_sep', bigSep_sep', bigSep_sep']
  have hb : (bigSep Finset.univ fun c : Dev nD => bigSep Finset.univ fun j : Fin 3 => (dutyTok ER (barCell c) 0 j : sProp 𝕄))
      = bigSep Finset.univ fun c : Dev nD => bigSep Finset.univ fun j : Fin 3 => dutyTok ER (barCell (ahead j c)) 0 j.rev := by
    rw [← bigSep_univ_prod (fun x : Dev nD × Fin 3 => (dutyTok ER (barCell x.1) 0 x.2 : sProp 𝕄)),
      ← bigSep_univ_prod (fun x : Dev nD × Fin 3 => (dutyTok ER (barCell (ahead x.2 x.1)) 0 x.2.rev : sProp 𝕄)), bigSep_univ_equiv barDeal]
    rfl
  have ht : (bigSep Finset.univ fun c : Dev nD => bigSep Finset.univ fun s : Fin 6 => (dutyTok ER (rvCell c s) 0 0 : sProp 𝕄))
      = bigSep Finset.univ fun c : Dev nD => bigSep Finset.univ fun s : Fin 6 => dutyTok ER (rvCell (tgt c s) s) 0 0 := by
    rw [← bigSep_univ_prod (fun x : Dev nD × Fin 6 => (dutyTok ER (rvCell x.1 x.2) 0 0 : sProp 𝕄)),
      ← bigSep_univ_prod (fun x : Dev nD × Fin 6 => (dutyTok ER (rvCell (tgt x.1 x.2) x.2) 0 0 : sProp 𝕄)), bigSep_univ_equiv tileDeal]
    rfl
  rw [hb, ht]

theorem known_all (K : Dev nD × Cel → ℕ) (c : Dev nD) : iprop(known m K ∗ seats (F := F) c ∗ payToks (F := F) c) ⊢ G' m c := by
  unfold G'; iintro H; iexists K; iexact H

theorem share_known (K : Dev nD × Cel → ℕ) :
    iprop(known m K ∗ bigSep Finset.univ fun c : Dev nD => iprop(seats (F := F) c ∗ payToks (F := F) c)) ⊢ bigSep Finset.univ (G' m) := by
  refine (sep_mono_left (BI.bigSep_of_persistent (Finset.univ : Finset (Dev nD)) (known m K))).trans ?_
  rw [← bigSep_sep']
  exact bigSep_mono fun c _ => known_all m K c

theorem deal :
    (bigSep Finset.univ fun c : Dev nD => iprop((bigSep Finset.univ fun k : Cel => iprop(∃ κ : ℕ, cellInv ER (Rd m) κ (cell (c, k))))
          ∗ (seats (F := F) c ∗ bigSep Finset.univ fun k : Cel => reached ER (cell (c, k)) 0) ∗ toks (F := F) c) : sProp 𝕄)
      ⊢ bigSep Finset.univ (G' m) := by
  rw [bigSep_sep', bigSep_sep', bigSep_sep', ← bigSep_univ_prod (fun ck : Dev nD × Cel => iprop(∃ κ : ℕ, cellInv ER (Rd m) κ (cell ck))),
    ← bigSep_univ_prod (fun ck : Dev nD × Cel => (reached ER (cell ck) 0 : sProp 𝕄)), toks_dealt]
  iintro ⟨HI, ⟨Hat, #HR⟩, Htok⟩
  ihave HK := (BI.bigSep_exists_pi Finset.univ (fun (ck : Dev nD × Cel) (κ : ℕ) => (cellInv ER (Rd m) κ (cell ck) : sProp 𝕄))) $$ HI
  icases HK with ⟨%K, #HI⟩
  iapply (share_known m K)
  isplitr
  · unfold known; isplitl; · iexact HI
    iexact HR
  · rw [bigSep_sep']
    isplitl [Hat] <;> iassumption

/-- All devices' semaphores at once. -/
theorem glob : (bigSep Finset.univ fun c => iprop(Pipeline.ownSems0 (Ix := Unit) (Name := ℕ) (U := UU) (Lvl := ℕ) (Val := Elt F) (τ := τ) ownSem c ∗ unscopedSems0 c ∗ G m c) : sProp 𝕄)
    ⊢ |={Set.univ}=> bigSep Finset.univ (G' m) :=
  ((bigSep_mono fun c _ => open_cells m c).trans (bigSep_fupd _ _)).trans (BI.fupd_mono (deal m))

/-! ## The launch credit -/

omit [FloatOps F] in
/-- What a device owes at launch, summed up: each tile and each barrier unit. -/
theorem owed_eq (d : Dev nD) (g : GSem nD τ sig) : O₀ d g () = (∑ s : Fin 6, oweTile d s g ()) + ∑ j : Fin 3, oweBar d j g () := by
  have e : O₀ d = 0 + oweTile d 5 + oweTile d 4 + oweTile d 3 + oweTile d 2 + oweTile d 1 + oweTile d 0
      + oweBar d 2 + oweBar d 1 + oweBar d 0 := by
    unfold O₀ oweBars oweBars oweBars oweBars oweTiles oweTiles oweTiles oweTiles oweTiles oweTiles oweTiles; rfl
  rw [Fin.sum_univ_six, Fin.sum_univ_three, e]
  simp only [Pi.add_apply, Finsupp.add_apply, Pi.zero_apply, Finsupp.zero_apply]
  omega

omit [FloatOps F] in
theorem cell_eq_iff (x y : Dev nD × Cel) : cell x = cell y ↔ x = y := cell_inj.eq_iff

omit [FloatOps F] in
/-- A barrier cell is owed one unit by every device `j + 1` steps behind it, -/
theorem bar_due (d c : Dev nD) : O₀ d (barCell c) () = ∑ j : Fin 3, if ahead j d = c then 1 else 0 := by
  rw [owed_eq, Finset.sum_eq_zero fun s _ => ?_, zero_add]
  · refine Finset.sum_congr rfl fun j _ => ?_
    rw [tallyAt_apply]
    by_cases h : ahead j d = c
    · rw [if_pos h, if_pos ⟨by rw [h], rfl⟩]
    · rw [if_neg h, if_neg fun e => h (congrArg Prod.fst ((cell_eq_iff (c, .inl ()) (ahead j d, .inl ())).mp e.1)).symm]
  · rw [tallyAt_apply, if_neg fun e => ?_]
    have := congrArg Prod.snd ((cell_eq_iff (c, .inl ()) (tgt d s, .inr (.inr (.inr s)))).mp e.1)
    cases this

omit [FloatOps F] in
/-- and a receive cell a tile by the device it comes from. -/
theorem tile_due (d c : Dev nD) (s : Fin 6) : O₀ d (rvCell c s) () = if d = src c s then Nt else 0 := by
  rw [owed_eq, Finset.sum_eq_zero (s := (Finset.univ : Finset (Fin 3))) fun j _ => ?_, add_zero, Finset.sum_eq_single s]
  · rw [tallyAt_apply]
    by_cases h : d = src c s
    · subst h; rw [if_pos ⟨by rw [show tgt (src c s) s = c from ahead_behind _ _], rfl⟩, if_pos rfl]
    · rw [if_neg h, if_neg fun e => h ?_]
      have hc := congrArg Prod.fst ((cell_eq_iff (c, .inr (.inr (.inr s))) (tgt d s, .inr (.inr (.inr s)))).mp e.1)
      have hc' : c = tgt d s := hc
      rw [hc']; exact (behind_ahead _ _).symm
  · intro s' _ hs
    rw [tallyAt_apply, if_neg fun e => hs ?_]
    have hc := congrArg Prod.snd ((cell_eq_iff (c, .inr (.inr (.inr s))) (tgt d s', .inr (.inr (.inr s')))).mp e.1)
    exact (Sum.inr.inj (Sum.inr.inj (Sum.inr.inj hc))).symm
  · intro h; exact absurd (Finset.mem_univ s) h
  · rw [tallyAt_apply, if_neg fun e => ?_]
    have := congrArg Prod.snd ((cell_eq_iff (c, .inr (.inr (.inr s))) (ahead j d, .inl ())).mp e.1)
    cases this

omit [FloatOps F] in
theorem three_signals (c : Dev nD) : (∑ d : Dev nD, ∑ j : Fin 3, if ahead j d = c then 1 else 0) = 3 := by revert c; decide

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => bar_due d c]
  exact three_signals c

omit [FloatOps F] in
theorem launch_tile (c : Dev nD) (s : Fin 6) :
    tallyOn (rvCell c s) (launchCredit (Pipeline.owing O₀) 0 (rvCell c s)) = (tallyAt (rvCell c s) () Nt : CellTallies nD τ sig Unit) := by
  unfold tallyAt; refine congrArg _ (Finsupp.ext fun u => ?_); cases u
  rw [Pipeline.launchCredit_owing, Finsupp.single_eq_same, Finset.sum_congr rfl fun d _ => tile_due d c s,
    Finset.sum_ite_eq' Finset.univ (src c s) fun _ => Nt, if_pos (Finset.mem_univ _)]

/-- The receive semaphores among all. -/
def rvLoc : Fin 6 ↪ SemLoc sig := ⟨fun s => celSem (.inr (.inr (.inr s))), fun a b h => Sum.inr.inj (Sum.inr.inj (Sum.inr.inj (celSem_inj h)))⟩

omit [FloatOps F] in
/-- A device's launch credit: three units of its barrier, and a tile of each of its receive cells. -/
theorem creds (c : Dev nD) :
    (Pipeline.launchCred O₀ c : sProp 𝕄) ⊢ iprop(cred (tallyAt (barCell c) () 3) ∗ bigSep Finset.univ fun s : Fin 6 => cred (tallyAt (rvCell c s) () Nt)) := by
  unfold Pipeline.launchCred
  rw [bigSep_univ_at _ (SemLoc.reg barS), launch_bar]
  refine sep_mono_right ?_
  have hsub : Finset.univ.map rvLoc ⊆ Finset.univ.erase (SemLoc.reg barS) := by
    intro x hx
    obtain ⟨s, -, rfl⟩ := Finset.mem_map.mp hx
    exact Finset.mem_erase.mpr ⟨(fun h => by cases h), Finset.mem_univ _⟩
  refine (bigSep_subset hsub).trans ?_
  rw [bigSep_map]
  exact bigSep_mono fun s _ => Entails.of_eq (congrArg cred (launch_tile c s))

end Cert.KernelProof

end
-- ==== Proof.Run.lean ====
/-
The launch: what each device starts and ends with, the body's obligation, and the run of `@main`.
-/
module

public import proofs.«01_k».proof.Proof.Ghost
public import proofs.«01_k».proof.Proof.Gen.KernelIdeal.Points
public import Idealize.ShloMosaic.Lib.Ring.Tabled
public import Idealize.ShloMosaic.Lib.Pipeline.CollectiveSegs

@[expose] public section

noncomputable section

namespace Cert.KernelProof

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffers, cut into slots -/

/-- The elements of a scratch buffer in no slot, at any contents. -/
def wRest (c : Dev nD) : sProp 𝕄 :=
  iprop(∃ f : Buf (Elt F) ((c : Thread nD τ).loc cc0_scratch0), ((c : Thread nD τ).loc cc0_scratch0) ↦[Ring.restOf fun s : Fin 8 => (wS s).view.set]{fullShare} f)
def sRest (c : Dev nD) : sProp 𝕄 :=
  iprop(∃ f : Buf (Elt F) ((c : Thread nD τ).loc cc0_scratch1), ((c : Thread nD τ).loc cc0_scratch1) ↦[Ring.restOf fun s : Fin 6 => (sS s).view.set]{fullShare} f)
def rRest (c : Dev nD) : sProp 𝕄 :=
  iprop(∃ f : Buf (Elt F) ((c : Thread nD τ).loc cc0_scratch2), ((c : Thread nD τ).loc cc0_scratch2) ↦[Ring.restOf fun s : Fin 6 => (rS s).view.set]{fullShare} f)
def rests (c : Dev nD) : sProp 𝕄 := iprop(wRest (F := F) c ∗ sRest (F := F) c ∗ rRest (F := F) c)

omit [FloatOps F] in
theorem scratch_cut (c : Dev nD) :
    (scopedRest (Ix := Unit) (Name := ℕ) (U := UU) (Lvl := ℕ) (Val := Elt F) cfg0.spec c : sProp 𝕄)
      ⊢ iprop((bigSep Finset.univ fun s : Fin 8 => wAny (F := F) c s) ∗ (bigSep Finset.univ fun s : Fin 6 => sAny (F := F) c s)
        ∗ (bigSep Finset.univ fun s : Fin 6 => rAny (F := F) c s) ∗ rests (F := F) c) := by
  rw [show (scopedRest cfg0.spec c : sProp 𝕄) = scopedRest spec0 c from rfl, scopedRest0_eq]
  iintro ⟨H1, H2, H3⟩
  ihave H1 := (Ring.fam_split_ex (ℓ := (c : Thread nD τ).loc cc0_scratch0) (fun s : Fin 8 => (wS s).view.set) wS_disjoint) $$ H1
  ihave H2 := (Ring.fam_split_ex (ℓ := (c : Thread nD τ).loc cc0_scratch1) (fun s : Fin 6 => (sS s).view.set) sS_disjoint) $$ H2
  ihave H3 := (Ring.fam_split_ex (ℓ := (c : Thread nD τ).loc cc0_scratch2) (fun s : Fin 6 => (rS s).view.set) rS_disjoint) $$ H3
  icases H1 with ⟨H1, H1'⟩
  icases H2 with ⟨H2, H2'⟩
  icases H3 with ⟨H3, H3'⟩
  unfold rests wRest sRest rRest
  isplitl [H1]; · iexact H1
  isplitl [H2]; · iexact H2
  isplitl [H3]; · iexact H3
  isplitl [H1']; · iexact H1'
  isplitl [H2']; · iexact H2'
  iexact H3'

/-- A slot that holds its tile is a slot at some contents. -/
theorem wHas_any (c : Dev nD) (s : Fin 8) : wHas m c s ⊢ wAny (F := F) c s := by
  unfold wHas wAny owns; iintro ⟨%f, -, H⟩; iexists f; iexact H
theorem rHas_any (c : Dev nD) (s : Fin 6) : rHas m c s ⊢ rAny (F := F) c s := by
  unfold rHas rAny owns; iintro ⟨%f, -, H⟩; iexists f; iexact H

theorem scratch_join (c : Dev nD) :
    iprop((bigSep Finset.univ fun s : Fin 8 => wHas m c s) ∗ (bigSep Finset.univ fun s : Fin 6 => sAny (F := F) c s)
        ∗ (bigSep Finset.univ fun s : Fin 6 => rHas m c s) ∗ rests (F := F) c)
      ⊢ (scopedRest (Ix := Unit) (Name := ℕ) (U := UU) (Lvl := ℕ) (Val := Elt F) cfg0.spec c : sProp 𝕄) := by
  have hw : (bigSep Finset.univ fun s : Fin 8 => wHas m c s) ⊢ bigSep Finset.univ fun s : Fin 8 => wAny (F := F) c s := bigSep_mono fun s _ => wHas_any m c s
  have hr : (bigSep Finset.univ fun s : Fin 6 => rHas m c s) ⊢ bigSep Finset.univ fun s : Fin 6 => rAny (F := F) c s := bigSep_mono fun s _ => rHas_any m c s
  have e0 : Nonempty (Buf (Elt F) ((c : Thread nD τ).loc cc0_scratch0)) := ⟨fun i => default⟩
  have e1 : Nonempty (Buf (Elt F) ((c : Thread nD τ).loc cc0_scratch1)) := ⟨fun i => default⟩
  have e2 : Nonempty (Buf (Elt F) ((c : Thread nD τ).loc cc0_scratch2)) := ⟨fun i => default⟩
  rw [show (scopedRest cfg0.spec c : sProp 𝕄) = scopedRest spec0 c from rfl, scopedRest0_eq]
  unfold rests wRest sRest rRest
  iintro ⟨H1, H2, H3, H1', H2', H3'⟩
  ihave H1 := hw $$ H1
  ihave H3 := hr $$ H3
  isplitl [H1 H1']
  · iapply (Ring.fam_join (ℓ := (c : Thread nD τ).loc cc0_scratch0) (fun s : Fin 8 => (wS s).view.set) wS_disjoint e0.some)
    isplitl [H1]
    · iexact H1
    iexact H1'
  isplitl [H2 H2']
  · iapply (Ring.fam_join (ℓ := (c : Thread nD τ).loc cc0_scratch1) (fun s : Fin 6 => (sS s).view.set) sS_disjoint e1.some)
    isplitl [H2]
    · iexact H2
    iexact H2'
  iapply (Ring.fam_join (ℓ := (c : Thread nD τ).loc cc0_scratch2) (fun s : Fin 6 => (rS s).view.set) rS_disjoint e2.some)
  isplitl [H3]
  · iexact H3
  iexact H3'

/-! ## `w`, shared out to the copies -/

omit [FloatOps F] in
/-- A copy's share of `w` covers the columns it takes. -/
theorem w_slice (c : Dev nD) (s : Fin 8) :
    (((c : Thread nD τ).loc main_arg1) ↦{wShare s} wArr m c : sProp 𝕄) ⊢ (aC c s).view.loc (c : Thread nD τ) ↦[(aC c s).view.set]{wShare s} wArr m c := by
  iintro H
  ihave H := (pointsTo_split_subset (Finset.subset_univ ((aC c s).view.set : Finset (Idx ((c : Thread nD τ).loc main_arg1))))).1 $$ H
  icases H with ⟨H, -⟩
  iexact H

omit [FloatOps F] in
/-- The left half of `w`'s share is enough for the eight copies. -/
theorem w_cut (c : Dev nD) :
    (((c : Thread nD τ).loc main_arg1) ↦{fullShare.left} wArr m c : sProp 𝕄)
      ⊢ bigSep Finset.univ fun s : Fin 8 => (aC c s).view.loc (c : Thread nD τ) ↦[(aC c s).view.set]{wShare s} wArr m c := by
  refine (Ring.pointsTo_nths (wArr m c) 7 fullShare.left).1.trans ?_
  rw [← bigSep_univ_eq_bigSepL (List.finRange 8) (by decide) (by decide) (fun s : Fin 8 => (((c : Thread nD τ).loc main_arg1) ↦{wShare s} wArr m c : sProp 𝕄))]
  exact bigSep_mono fun s _ => w_slice m c s

/-! ## What a device starts with -/

/-- All but the scratch buffers. -/
def inits (c : Dev nD) : sProp 𝕄 :=
  iprop((∃ K, known m K ∗ seats (F := F) c ∗ payToks (F := F) c) ∗ levAts L lv
    ∗ (cred (tallyAt (barCell c) () 3) ∗ bigSep Finset.univ fun s : Fin 6 => cred (tallyAt (rvCell c s) () Nt))
    ∗ (((c : Thread nD τ).loc main_arg1) ↦{fullShare.left} wArr m c))

omit [FloatOps F] in
/-- A device's positions, by kind. -/
theorem seats_eq (c : Dev nD) :
    (seats (F := F) c : sProp 𝕄) = iprop(atPos ER (barCell c) 0 ∅ 0 ∗ (bigSep Finset.univ fun s : Fin 8 => atPos ER (cpCell c s) 0 ∅ 0)
      ∗ (bigSep Finset.univ fun s : Fin 6 => atPos ER (sdCell c s) 0 ∅ 0) ∗ bigSep Finset.univ fun s : Fin 6 => atPos ER (rvCell c s) 0 ∅ 0) := by
  unfold seats
  have e := bigSep_univ_sum (fun k : Cel => (atPos ER (cell (c, k)) 0 ∅ 0 : sProp 𝕄))
  refine e.trans ?_
  rw [show (bigSep Finset.univ fun a : Unit => (atPos ER (cell (c, Sum.inl a)) 0 ∅ 0 : sProp 𝕄)) = atPos ER (barCell c) 0 ∅ 0 from bigSep_singleton,
    bigSep_univ_sum, bigSep_univ_sum]
  rfl

/-- The body's start, at some names, with the parts of the scratch buffers it never touches. -/
def Φ₀ (c : Dev nD) : sProp 𝕄 := iprop((∃ K, known m K) ∗ levAts L lv ∗ starts m c ∗ rests (F := F) c)
/-- Its end. -/
def Φ₁ (c : Dev nD) : sProp 𝕄 := iprop(ends m c ∗ rests (F := F) c)

theorem phi0_intro (c : Dev nD) :
    iprop(inits m c ∗ (scopedRest (Ix := Unit) (Name := ℕ) (U := UU) (Lvl := ℕ) (Val := Elt F) cfg0.spec c : sProp 𝕄)) ⊢ Φ₀ m c := by
  unfold inits Φ₀ starts wReady sReady rReady payToks
  rw [seats_eq]
  simp only [bigSep_sep']
  iintro ⟨⟨⟨%K, HK, ⟨HaB, HaC, HaS, HaV⟩, HtB, HtC, HtS, HtV⟩, Hlev, ⟨HcB, HcV⟩, Hw⟩, Hscr⟩
  ihave Hs := (scratch_cut (F := F) c) $$ Hscr
  icases Hs with ⟨H1, H2, H3, Hrest⟩
  ihave Hw := (w_cut m c) $$ Hw
  isplitl [HK]; · iexists K; iexact HK
  isplitl [Hlev]; · iexact Hlev
  isplitr [Hrest]
  · isplitl [HaB HcB]
    · isplitl [HaB] <;> iassumption
    isplitl [HtB]; · iexact HtB
    isplitl [HaC HtC H1 Hw]
    · isplitl [HaC]; · iexact HaC
      isplitl [HtC]; · iexact HtC
      isplitl [H1]; · iexact H1
      iexact Hw
    isplitl [HaS HtS HtV H2]
    · isplitl [HaS]; · iexact HaS
      isplitl [HtS HtV]
      · isplitl [HtS]
        · iexact HtS
        iexact HtV
      iexact H2
    isplitl [HaV HcV]
    · isplitl [HaV]
      · iexact HaV
      iexact HcV
    iexact H3
  iexact Hrest

omit [FloatOps F] in
/-- The launch's own semaphores, by kind. -/
theorem ownSems_eq (c : Dev nD) :
    (ownSems0 (Ix := Unit) (Name := ℕ) (U := UU) (Lvl := ℕ) (Val := Elt F) (τ := τ) ownSem c : sProp 𝕄)
      = iprop((bigSep Finset.univ fun s : Fin 8 => semVal (cpCell c s) 0)
        ∗ (bigSep Finset.univ fun s : Fin 6 => semVal (sdCell c s) 0) ∗ bigSep Finset.univ fun s : Fin 6 => semVal (rvCell c s) 0) := by
  unfold ownSems0; rw [bigSep_univ_sum, bigSep_univ_sum]; rfl

theorem phi1_exit (c : Dev nD) :
    Φ₁ m c ⊢ iprop(unscopedSems0 c ∗ ownSems0 (Ix := Unit) (Name := ℕ) (U := UU) (Lvl := ℕ) (Val := Elt F) (τ := τ) ownSem c ∗ scopedRest cfg0.spec c) := by
  unfold Φ₁ ends wDone sDone rDone
  rw [ownSems_eq, unscopedSems0_eq]
  simp only [bigSep_sep']
  iintro ⟨⟨HB, ⟨Hc, Hw⟩, ⟨Hs, Hs'⟩, Hv, Hv'⟩, Hrest⟩
  isplitl [HB]; · iexact HB
  isplitl [Hc Hs Hv]
  · isplitl [Hc]; · iexact Hc
    isplitl [Hs] <;> iassumption
  iapply (scratch_join m c)
  isplitl [Hw]; · iexact Hw
  isplitl [Hs']; · iexact Hs'
  isplitl [Hv']; · iexact Hv'
  iexact Hrest

/-! ## The pipeline's data, and the body's obligation -/

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xBlk m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- Holding a whole buffer at contents `X`. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole ..

/-- The staging buffer of `x` as the body finds it, and of the result. -/
theorem before_x (c : Dev nD) (d : (cc0_stg0_0 : Ref sig .tc).ty.Contents (Elt F)) : (dats m ρ 0 c).before (0 : Fin 2) t0_0 d = xBlk m c := by
  unfold Dat.before; rw [if_pos (fetch0_0 t0_0)]; rfl

set_option maxRecDepth 4000 in
def bodyPre (c : Dev nD) : sProp 𝕄 :=
  iprop(Φ₀ m c ∗ (dats m ρ 0 c).owesAt () t0_0.castSucc
    ∗ (∃ d : (cc0_stg0_0 : Ref sig .tc).ty.Contents (Elt F), ((c : Thread nD τ).loc cc0_stg0_0) ↦{fullShare} (dats m ρ 0 c).before (0 : Fin 2) t0_0 d)
    ∗ (∃ d : (cc0_stg1_0 : Ref sig .tc).ty.Contents (Elt F), ((c : Thread nD τ).loc cc0_stg1_0) ↦{fullShare} (dats m ρ 0 c).before (1 : Fin 2) t0_0 d))

def bodyPost (c : Dev nD) : sProp 𝕄 :=
  iprop(Φ₁ m c ∗ (dats m ρ 0 c).owesAt () t0_0.succ ∗ xHas m c ∗ (((c : Thread nD τ).loc cc0_stg1_0) ↦{fullShare} outAt m c))

theorem all_slots : ∀ s : Fin 8, s ∈ [5, 4, 3, 2, 1, 0, 7, 6] := by decide

set_option maxRecDepth 4000 in
/-- The body runs on device `c`. -/
theorem body_obligation (c : Dev nD) : BodyObligation (dats (F := F) m ρ 0 c) (defs₀ (F := F)) 𝒱₀ () Set.univ := fun t => by
  rw [fin_N0 t, bigSep_W0, bigSep_W0]
  simp only [owns_buf]
  show bodyPre m ρ c ⊢ wp frame (wpE (defs₀ (F := F)) 𝒱₀ c none) Set.univ
    (cc0_body xM (Memref.isWhole_whole _) aM (Memref.isWhole_whole _) oM (Memref.isWhole_whole _)
      wB (Memref.isWhole_whole _) sB (Memref.isWhole_whole _) rB (Memref.isWhole_whole _) cc0_scratch3 cc0_scratch4 cc0_scratch5) (fun _ => bodyPost m ρ c)
  unfold bodyPre Φ₀ Dat.owesAt owesWithin
  iintro ⟨⟨⟨%K, HK⟩, Hlev, Hst, Hrest⟩, ⟨%W, -, HO⟩, ⟨%d, Hx⟩, ⟨%e, Ho⟩⟩
  iapply (kernel_runs m K c fun _ => bodyPost m ρ c)
  isplitl [HK]; · iexact HK
  isplitl [Hlev]; · iexact Hlev
  isplitl [Hst]; · iexact Hst
  isplitl [HO]; · unfold hold; iexists W; iexact HO
  isplitl [Hx]
  · unfold xHas; rw [before_x]; iexact Hx
  isplitl [Ho]
  · unfold outHas; iexists ((dats m ρ 0 c).before (1 : Fin 2) t0_0 e); isplitr
    · ipureintro; exact Filled.nil m c _
    iexact Ho
  unfold bodyPost Φ₁ Dat.owesAt owesWithin hold outHas
  iintro ⟨He, ⟨%W', HO⟩, Hx, ⟨%f, %hf, Ho⟩⟩
  have hf' := Filled.all m hf all_slots
  subst hf'
  isplitl [He Hrest]
  · isplitl [He] <;> iassumption
  isplitl [HO]
  · iexists W'; isplitr; · ipureintro; exact fun _ _ => Or.inl trivial
    iexact HO
  isplitl [Hx] <;> iassumption

/-! ## The run -/

omit [FloatOps F] in
theorem ownSemFacts : OwnSemFacts cfg0.spec ownSem := by decide +kernel

omit [FloatOps F] in
theorem rest_w (c : Dev nD) (V : (b : Ref sig .tc) → Buf (Elt F) ((c : Thread nD τ).loc b)) :
    (unscopedRestP (Ix := Unit) (Name := ℕ) (U := UU) (Lvl := ℕ) Prefetch.none cfg0.spec c V : sProp 𝕄) = (((c : Thread nD τ).loc main_arg1) ↦{fullShare} V main_arg1) :=
  unscopedRestP_eq_of_list _ c Prefetch.none V [main_arg1] (by decide) (by decide)

theorem start_intro (c : Dev nD) :
    iprop(unscopedRestP Prefetch.none cfg0.spec c (fun b => m ((c : Thread nD τ).loc b)) ∗ levAts L lv
        ∗ launchCred O₀ c ∗ prngReg c (ρ c) ∗ G' m c)
      ⊢ |={Set.univ}=> iprop(inits m c ∗ (((c : Thread nD τ).loc main_arg1) ↦{fullShare.right} wArr m c)) := by
  rw [rest_w]
  iintro ⟨Hw, Hlev, Hcr, -, HG⟩
  ihave Hc := (creds (F := F) c) $$ Hcr
  ihave Hw := (pointsTo_share (PosShare.mem_left_op_right fullShare)).1 $$ Hw
  icases Hw with ⟨Hl, Hr⟩
  imodintro
  unfold inits G'
  isplitr [Hr]
  · isplitl [HG]; · iexact HG
    isplitl [Hlev]; · iexact Hlev
    isplitl [Hc]; · iexact Hc
    iexact Hl
  · iexact Hr

theorem waits (c : Dev nD) : (levAts L lv : sProp 𝕄) ⊢ cellsWaits cfgs (dats m ρ) () 0 c :=
  cellsWaits_intro cfgs (dats m ρ) () 0 c fun w s t =>
    mayWait_of_above c _ (n := 0) (by fin_cases w <;> fin_cases s <;> decide) (by
      rcases t with ⟨_ | _, ht⟩
      · exact above_bars c 3
      · exact Above.zero 0)

/-- What the run leaves in the arrays. -/
def finalA (c : Dev nD) (w : Fin cfg0.W) : Buf (Elt F) ((cfg0.win w).arr.view.loc (c : Thread nD τ)) := (dats m ρ 0 c).arrAt w cfg0.N

def Good (r : PUnit × MemSt nD τ sig (Elt F)) : Prop :=
  (∀ c : Dev nD, ∀ w : Fin cfg0.W, r.2.mem ((cfg0.win w).arr.view.loc (c : Thread nD τ)) = finalA m ρ c w)
    ∧ (∀ c : Dev nD, r.2.mem ((c : Thread nD τ).loc main_arg1) = m ((c : Thread nD τ).loc main_arg1)) ∧ r.2.sem = fun _ => 0

set_option maxRecDepth 8000 in
/-- From any memory with zero counters the four devices' kernels run to an end, and every end has each device's result
    array at the computed contents, both arguments unchanged and every counter at zero. -/
theorem run_main : θ_run defs (onTc (τ := τ) (main (F := F))) (s₀ m ρ) (Good m ρ) :=
  θ_run_region_owing_glob_pf (fun p => (cfgs p).toPCfg) (fun p => (cfgs p).toPCfg_adm) (dats m ρ) () cellOf_inj (0 : Fin 1)
    winFacts0.to₀ ownSemFacts (PreFacts.none _) EP defs₀ 𝒱₀ m ρ main
    (hmain := fun _ => rfl)
    (hbody := body_obligation m ρ) (hne := block_pos0) (harr := arr_whole0) (hstage := stage_whole0)
    (hshare := fun c w => (dats m ρ 0 c).share_full (fun _ => rfl) w)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := inits m) (Y := fun c => unscopedSems0 c) (Z := fun c => iprop(((c : Thread nD τ).loc main_arg1) ↦{fullShare.right} wArr m c))
    (hX := start_intro m ρ)
    (hin := fun c => by
      rw [show (dats m ρ 0 c).Φ 0 = Φ₀ m c from rfl]
      iintro ⟨H, -, Hs⟩
      iapply (phi0_intro m c)
      isplitl [H] <;> iassumption)
    (hout := fun c => phi1_exit m c)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hw, HSI⟩
      icombine HSI Hw gives %hw
      imod (Pipeline.unscopedSems0_read (X := unscopedSems0 c) (c := c) fupd_intro s') $$ [Hu HSI] with ⟨%hu, HSI⟩
      · isplitl [Hu] <;> iassumption
      imodintro
      isplitr
      · ipureintro; exact ⟨hu, Buf.eq_of_forall_mem_univ hw⟩
      iexact HSI)
    (hQ := fun _ h hs => ⟨fun c w => (h c).1 w, fun c => (h c).2.2.2, sem_eq_zero hs fun c => (h c).2.2.1⟩)

/-- The array of `x` after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelProof

end
-- ==== Proof.Final.lean ====
/-
The result array after the run: the one point writes the whole of it from the staging buffer, so it holds the tiles.
-/
module

public import proofs.«01_k».proof.Proof.Run
public import Idealize.ShloMosaic.Lib.Pipeline.Value

@[expose] public section

noncomputable section

namespace Cert.KernelProof

open Cert.KernelIdeal Cert.KernelIdeal.Gen
open Idealize.ShloMosaic Idealize.ShloMosaic.TcCoe Idealize.ShloMosaic.Pipeline

variable {F : FTy → Type} [FloatOps F]
variable (m : (ℓ : Loc nD τ sig) → Buf (Elt F) ℓ) (ρ : Dev nD → PrngReg)

/-- Where an element of the result's one block sits in the array: at the same index. -/
theorem out_emb (t : Fin cfg0.N) (i : S2048x512.Idx) : (win0_1.blk t).view.emb i = i :=
  funext fun a => Fin.ext (by
    match a with
    | 0 => show 0 + 1 * (i 0).val = (i 0).val; omega
    | 1 => show 0 + 1 * (i 1).val = (i 1).val; omega)

/-- The result array after the run holds the eight tiles. -/
theorem finalA_out (c : Dev nD) : finalA m ρ c (1 : Fin 2) = outAt m c :=
  (dats m ρ 0 c).arrAt_eq_of_cover (1 : Fin 2) (outAt m c)
    (fun t _ => by
      funext i
      show outAt m c i = outAt m c ((win0_1.blk t).view.emb i)
      rw [out_emb])
    (fun i => ⟨(0 : Fin 1), flush0_1 (0 : Fin 1), by
      have h := (win0_1.blk (0 : Fin 1)).view.emb_mem_set i
      rwa [show (win0_1.blk (0 : Fin 1)).view.emb i = i from out_emb (0 : Fin 1) i] at h⟩)

end Cert.KernelProof

end
-- ==== Proof.Same.lean ====
/-
The kernel read on machine words and the kernel read over the extended reals have one text, printed twice: their tables of
bodies are equal, over any float values.
-/
module

public import proofs.«01_k».proof.Proof.Gen.Kernel
public import proofs.«01_k».proof.Proof.Gen.KernelIdeal

@[expose] public section

namespace Cert.KernelProof

open Idealize.ShloMosaic

attribute [local instance] Cert.Kernel.Gen.facts Cert.KernelIdeal.Gen.facts

variable (F : FTy → Type) [FloatOps F]

/-- The kernel's one body. -/
theorem bodies_same : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl

/-- The body and the pipeline around it. -/
theorem defs_same : Cert.Kernel.defs (F := F) = Cert.KernelIdeal.defs (F := F) := by
  unfold Cert.Kernel.defs Cert.KernelIdeal.defs
  rw [bodies_same]
  rfl

end Cert.KernelProof

end
-- ==== Proof.Tile.lean ====
/-
What the kernel's tiles hold over the extended reals: the gelu of a row of a block of `x` times a column of `w`.
-/
module

public import proofs.«01_k».proof.Proof.Values
public import Idealize.ShloMosaic.Lib.Pointwise

@[expose] public section

noncomputable section

namespace Cert.KernelProof

open Cert.KernelIdeal Cert.KernelIdeal.Gen
open Idealize.ShloMosaic Idealize.ShloMosaic.TcCoe

/-! ## The gelu -/

/-- The tanh-approximated gelu, its four constants the rationals that their words are. -/
def gelu (y : EReal) : EReal :=
  Ideal.ofBits .f32 0x3F000000#32 * y
    * (1 + Ideal.tanh (Ideal.ofBits .f32 0x3F4C422A#32 * (y + Ideal.ofBits .f32 0x3D372713#32 * (y * y * y))))

/-- The kernel multiplies the cube from the left. -/
theorem gelu_left (y : EReal) :
    Ideal.ofBits .f32 0x3F000000#32 * y
      * (1 + Ideal.tanh (Ideal.ofBits .f32 0x3F4C422A#32 * (y + Ideal.ofBits .f32 0x3D372713#32 * y * y * y))) = gelu y := by
  unfold gelu; rw [mul_assoc (Ideal.ofBits .f32 0x3D372713#32 * y) y y, mul_assoc (Ideal.ofBits .f32 0x3D372713#32) y, ← mul_assoc y y y]

/-! ## The bodies of the slots -/

/-- A received tile is stored as its gelu. -/
theorem pay14_apply (v : Vec Ideal S1x512x256 .bf16) (r : Fin 512) (q : Fin 256) :
    k0_pay14 (F := Ideal) v (ix2 r q) = gelu (v (ix3 0 r q)) := by
  pointwise [k0_pay14]
  exact gelu_left _

/-- A sent tile is the product of the block of `x` and the slot's columns of `w`. -/
theorem pay2_apply (x : Vec Ideal S512x2048 .f32) (w : Vec Ideal S1x2048x256 .f32) (r : Fin 512) (q : Fin 256) :
    k0_pay2 (F := Ideal) (k0_pay1 x) w (ix3 0 r q) = ∑ k : Fin 2048, x (ix2 r k) * w (ix3 0 k q) := by
  pointwise [k0_pay2, k0_pay1]

/-- A kept tile is the gelu of that product. -/
theorem pay13_apply (x : Vec Ideal S512x2048 .f32) (w : Vec Ideal S1x2048x256 .f32) (r : Fin 512) (q : Fin 256) :
    k0_pay13 (F := Ideal) (k0_pay1 x) w (ix2 r q) = gelu (∑ k : Fin 2048, x (ix2 r k) * w (ix3 0 k q)) := by
  pointwise [k0_pay13, k0_pay1]
  exact gelu_left _

/-! ## What the operands hold -/

section Operands
variable {F : FTy → Type} [FloatOps F]
variable (m : (ℓ : Loc nD τ sig) → Buf (Elt F) ℓ)

/-- Column `q` of slot `s`, as a column of `w`. -/
def wAt (c : Dev nD) (s : Fin 8) (q : Fin 256) : Fin 2048 := ⟨wcol c s + q.val, by
  have h : wcol c s + 256 ≤ 2048 := wcol_inb c s 1
  have := q.isLt; omega⟩

/-- What a slot's local copy brings: its 256 columns of the device's `w`. -/
theorem wVal_apply (c : Dev nD) (s : Fin 8) (k : Fin 2048) (q : Fin 256) :
    wVal m c s (ix3 0 k q) = wArr m c (ix2 k (wAt c s q)) := by
  have e : (ix3 0 k q : S1x2048x256.Idx) = Shape.reshapeEquiv squeezes_S1x2048x256_S2048x256.numel_eq (ix2 k q : S2048x256.Idx) := by
    pointwise
  unfold wVal
  rw [e, Equiv.symm_apply_apply]
  show wArr m c _ = wArr m c _
  refine congrArg (wArr m c) (funext fun a => Fin.ext ?_)
  match a with
  | 0 => show 0 + 1 * k.val = k.val; omega
  | 1 => show wcol c s + 1 * q.val = wcol c s + q.val; omega

/-- The staged block of `x` is the device's whole array of `x`. -/
theorem xBlk_apply (c : Dev nD) (i : S512x2048.Idx) : xBlk m c i = m ((c : Thread nD τ).loc main_arg0) i := by
  unfold xBlk
  show m ((c : Thread nD τ).loc main_arg0) _ = _
  refine congrArg (m ((c : Thread nD τ).loc main_arg0)) (funext fun a => Fin.ext ?_)
  match a with
  | 0 => show 0 + 1 * (i 0).val = (i 0).val; omega
  | 1 => show 0 + 1 * (i 1).val = (i 1).val; omega

end Operands

/-! ## The tiles -/

variable (m : (ℓ : Loc nD τ sig) → Buf (Elt Ideal) ℓ)

/-- The device that computes slot `s` of device `c`'s result: the one it comes from, or `c` itself. -/
def maker (c : Dev nD) (s : Fin 8) : Dev nD := if h : s.val < 6 then src c ⟨s.val, h⟩ else c

/-- The slot's rows of the result are the maker's rows of `x`. -/
theorem maker_row : ∀ (c : Dev nD) (s : Fin 8), 512 * (maker c s).val = orow c s := by decide +kernel
/-- For slot `s` its maker takes the columns of `w` that are device `c`'s, at the slot's half. -/
theorem maker_col : ∀ (c : Dev nD) (s : Fin 8), wcol (maker c s) s = 512 * c.val + ocol s := by decide +kernel

/-- A device's rows of `x`, and its copy of `w`, as arrays of extended reals. -/
def xs (c : Dev nD) : FVec Ideal S512x2048 .f32 := m ((c : Thread nD τ).loc main_arg0)
def ws (c : Dev nD) : FVec Ideal S2048x2048 .f32 := m ((c : Thread nD τ).loc main_arg1)

/-- The sum a slot's product takes, over the arrays themselves. -/
theorem row_sum (e : Dev nD) (s : Fin 8) (r : Fin 512) (q : Fin 256) (x : Vec Ideal S512x2048 .f32) (w : Vec Ideal S1x2048x256 .f32)
    (hx : x = xBlk m e) (hw : w = wVal m e s) :
    (∑ k : Fin 2048, x (ix2 r k) * w (ix3 0 k q)) = ∑ k : Fin 2048, xs m e (ix2 r k) * ws m e (ix2 k (wAt e s q)) := by
  subst hx hw
  refine Finset.sum_congr rfl fun k _ => ?_
  rw [wVal_apply, xBlk_apply]
  rfl

/-- Every tile of device `c`'s result: its maker's rows of `x` against the columns of `w`, and the gelu. -/
theorem tVal_apply (c : Dev nD) (s : Fin 8) (r : Fin 512) (q : Fin 256) :
    tVal m c s (ix2 r q)
      = gelu (∑ k : Fin 2048, xs m (maker c s) (ix2 r k) * ws m (maker c s) (ix2 k (wAt (maker c s) s q))) := by
  unfold tVal maker
  by_cases h : s.val < 6
  · rw [dif_pos h, dif_pos h, pay14_apply]
    unfold sVal
    rw [pay2_apply, show slot8 ⟨s.val, h⟩ = s from rfl, row_sum m _ s r q _ _ rfl rfl]
  · rw [dif_neg h, dif_neg h, pay13_apply, row_sum m _ s r q _ _ rfl rfl]

end Cert.KernelProof

end
-- ==== Proof.Whole.lean ====
/-
The reference's product and gelu at an index, and the equation: device `c`'s result is block `c` of it.
-/
module

public import proofs.«01_k».proof.Proof.Tile
public import proofs.«01_k».proof.Proof.Gen.ReferenceIdeal
public import Idealize.ShloMosaic.Lib.Layout

@[expose] public section

noncomputable section

namespace Cert.KernelProof

open Idealize.ShloMosaic Idealize.ShloMosaic.TcCoe

/-! ## The reference -/

section Reference
open Cert.ReferenceIdeal Cert.ReferenceIdeal.Gen

/-- The reference's result of the whole `X` and `W`. -/
def refOut (X W : FVec Ideal S2048x2048 .f32) : FVec Ideal S2048x2048 .f32 :=
  have y : FVec Ideal S2048x2048 .f32 := Host.dotGeneral dot_S2048x2048_S2048x2048_S2048x2048_1_0_0_1_n_n none X W
  mulf (mulf (broadcastInDim S2048x2048 ![] Facts₀.bcast_S_S2048x2048 (constant S_ .f32 0x3F000000#32)) y)
    (addf (broadcastInDim S2048x2048 ![] Facts₀.bcast_S_S2048x2048 (constant S_ .f32 0x3F800000#32))
      (Host.tanh (mulf (broadcastInDim S2048x2048 ![] Facts₀.bcast_S_S2048x2048 (constant S_ .f32 0x3F4C422A#32))
        (addf y (mulf (broadcastInDim S2048x2048 ![] Facts₀.bcast_S_S2048x2048 (constant S_ .f32 0x3D372713#32)) (mulf (mulf y y) y))))))

/-- Each element of it is the gelu of a row of `X` times a column of `W`. -/
theorem refOut_apply (X W : FVec Ideal S2048x2048 .f32) (a b : Fin 2048) :
    refOut X W (ix2 a b) = gelu (∑ k : Fin 2048, X (ix2 a k) * W (ix2 k b)) := by
  pointwise [refOut, gelu]

end Reference

/-! ## The equation -/

section Equation
open Cert.KernelIdeal Cert.KernelIdeal.Gen

variable (m : (ℓ : Loc nD τ sig) → Buf (Elt Ideal) ℓ)
  (X W : FVec Ideal Cert.ReferenceIdeal.S2048x2048 .f32)

/-- If every device holds its block of rows of `X` and all of `W`, device `c` ends with its block of columns of the
    reference's result. -/
theorem outAt_eq (hx : ∀ c : Dev nD, xs m c = Layout.block ⟨2, ![512, 2048]⟩ ⟨2, ![2048, 2048]⟩ 0 4 c X)
    (hw : ∀ c : Dev nD, ws m c = W) (c : Dev nD) :
    outAt m c = Layout.block ⟨2, ![2048, 512]⟩ ⟨2, ![2048, 2048]⟩ 1 4 c (refOut X W) := by
  funext i
  have hrow : orow c (slotAt c i) + 1 * ((i 0).val % 512) = (i 0).val := congrArg (fun j : S2048x512.Idx => (j 0).val) (emb_slotAt c i)
  have hcol : ocol (slotAt c i) + 1 * ((i 1).val % 256) = (i 1).val := congrArg (fun j : S2048x512.Idx => (j 1).val) (emb_slotAt c i)
  have b0 : (i 0).val < 2048 := (i 0).isLt
  have b1 : (i 1).val < 512 := (i 1).isLt
  have bc : c.val < 4 := c.isLt
  have ht : inTile i = ix2 (⟨(i 0).val % 512, Nat.mod_lt _ (by decide)⟩ : Fin 512) (⟨(i 1).val % 256, Nat.mod_lt _ (by decide)⟩ : Fin 256) :=
    funext fun a => by match a with | 0 => rfl | 1 => rfl
  have hj : (show Layout.Tiles ⟨2, ![2048, 512]⟩ ⟨2, ![2048, 2048]⟩ 1 4 by decide).idx c i
      = ix2 (⟨(i 0).val, b0⟩ : Fin 2048) (⟨c.val * 512 + (i 1).val, by omega⟩ : Fin 2048) :=
    funext fun a => by match a with | 0 => rfl | 1 => rfl
  rw [Layout.block_apply, hj, refOut_apply]
  unfold outAt
  rw [ht, tVal_apply]
  refine congrArg gelu (Finset.sum_congr rfl fun k _ => ?_)
  rw [hx, hw, Layout.block_apply]
  congr 1
  · refine congrArg X (funext fun a => Fin.ext ?_)
    match a with
    | 0 =>
      show (maker c (slotAt c i)).val * 512 + (i 0).val % 512 = (i 0).val
      have := maker_row c (slotAt c i)
      omega
    | 1 => rfl
  · refine congrArg W (funext fun a => Fin.ext ?_)
    match a with
    | 0 => rfl
    | 1 =>
      show wcol (maker c (slotAt c i)) (slotAt c i) + (i 1).val % 256 = c.val * 512 + (i 1).val
      rw [maker_col]
      omega

end Equation

end Cert.KernelProof

end
-- ==== Proof.lean ====
/-
The proof of `Cert.Claim`: the kernel runs on four devices without fault, on machine words and over the extended reals, the
reference runs, and over the extended reals each device's result is its block of columns of the reference's.
  Proof/Slots, Sched, Values, Steps, Walk, Body: the body on one device, with the contents that each copy hands over;
  Proof/Ghost, Run: the launch on the four devices;
  Proof/Final: what the result array holds; Proof/Tile: one tile over the extended reals;
  Proof/Whole: what the reference computes, and the equation; Proof/Same: the kernel's two prints are one text.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Same
public import proofs.«01_k».proof.Proof.Whole
public import Idealize.ShloMosaic.Lib.Quiescent
public import Idealize.ShloMosaic.Adequacy
public import Idealize.ShloMosaic.Init

@[expose] public section

noncomputable section

namespace Cert.Proof

open Idealize.ShloMosaic Idealize.SL.Sem

section AnyFloats
open Cert.KernelIdeal
variable {F : FTy → Type} [FloatOps F]

/-- Over any float values, from any memory with zero counters, the kernel runs to an end with both arguments unchanged and
    every counter at zero. -/
theorem frame_any (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono
    (fun _ h => ⟨fun c => ⟨(h.1 c (0 : Fin 2)).trans (Cert.KernelProof.finalA_x m ρ c), h.2.1 c⟩, h.2.2⟩)
    (Cert.KernelProof.run_main m ρ)

end AnyFloats

/-- The kernel on machine words: its text is the same. -/
theorem frame_kernel : Cert.quiescent_Kernel (hKernel := Cert.Kernel.Gen.facts) := by
  intro m ρ _
  rw [Cert.KernelProof.defs_same]
  exact frame_any (F := Bits) m ρ

/-- The kernel over the extended reals. -/
theorem frame_ideal : Cert.quiescent_KernelIdeal (hKernelIdeal := Cert.KernelIdeal.Gen.facts) := fun m ρ _ => frame_any (F := Ideal) m ρ

/-- The reference runs to an end with its arguments unchanged; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- Each device's result is its block of columns of what the reference computes of the whole arrays. -/
theorem equation : Cert.algebraic_KernelIdeal_ReferenceIdeal (hKernelIdeal := Cert.KernelIdeal.Gen.facts)
    (hReferenceIdeal := Cert.ReferenceIdeal.Gen.facts) := fun m g m' g' _ hm =>
  ⟨Cert.KernelProof.refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨((h.1 c (1 : Fin 2)).trans (Cert.KernelProof.finalA_out m g c)).trans
          (Cert.KernelProof.outAt_eq m _ _ (fun c => (hm c).1) (fun c => (hm c).2) c),
        (h.1 c (0 : Fin 2)).trans (Cert.KernelProof.finalA_x m g c), h.2.1 c⟩)
      (Cert.KernelProof.run_main (F := Ideal) m g),
    (θ_run Cert.ReferenceIdeal.defs _ _).mono (fun _ h => h 0) (Cert.ReferenceIdeal.Value.run m' g')⟩

/-- All five claims. -/
theorem claim : Cert.Claim := ⟨Cert.Kernel.Gen.facts, Cert.KernelIdeal.Gen.facts, Cert.ReferenceIdeal.Gen.facts,
  frame_kernel, frame_ideal, frame_reference, trivial, equation⟩

end Cert.Proof

end
